-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_unclipped [hKernelIdeal : Cert.KernelIdeal.Facts] [hClippedIdeal : Cert.ClippedIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 4096]⟩ : Shape).Idx, (Layout.block ⟨2, ![2048, 4096]⟩ ⟨2, ![8192, 4096]⟩ 0 4 c ((Cert.On_unclipped.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![2048, 4096]⟩ : Shape).Idx → _) i = 1#1 → r.2.mem ((c.tc : Thread Cert.KernelIdeal.nD Cert.KernelIdeal.τ).loc Cert.KernelIdeal.main_v3) i = (Layout.block ⟨2, ![2048, 4096]⟩ ⟨2, ![8192, 4096]⟩ 0 4 c v0 : (⟨2, ![2048, 4096]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![8192, 4096]⟩ : Shape).Idx, (Cert.On_unclipped.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_unclipped (hKernelIdeal := hKernelIdeal) (hClippedIdeal := hClippedIdeal) (hOn_unclipped := hOn_unclipped)
-- ==== On_unclipped.lean ====
abbrev S8192x8192 : Shape := ⟨2, ![8192, 8192]⟩
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  dot_S8192x8192_S8192x4096_S8192x4096_1_0_0_1_n_n_wf : DotDims.WF S8192x8192 S8192x4096 S8192x4096 [1] [0] [0] [1] [] []

variable [Facts]

def dot_S8192x8192_S8192x4096_S8192x4096_1_0_0_1_n_n : DotDims S8192x8192 S8192x4096 S8192x4096 where
  lhsContracting := [1]
  rhsContracting := [0]
  lhsNonContracting := [0]
  rhsNonContracting := [1]
  lhsBatch := []
  rhsBatch := []
  wf := dot_S8192x8192_S8192x4096_S8192x4096_1_0_0_1_n_n_wf
def fn {F : FTy → Type} [FloatOps F] (main_arg0 : FVec F S8192x8192 .f32) (main_arg1 : FVec F S8192x4096 .f32) : IVec S8192x4096 1 :=
  let main_v0 : FVec F S8192x4096 .f32 := (fun l r => Host.dotGeneral dot_S8192x8192_S8192x4096_S8192x4096_1_0_0_1_n_n none l r) main_arg0 main_arg1
  let main_cst : FVec F S_ .f32 := constant S_ .f32 0xC2700000#32
  let main_v1 : FVec F S8192x4096 .f32 := broadcastInDim S8192x4096 ![] bcast_S_S8192x4096 main_cst
  let main_v2 : IVec S8192x4096 1 := cmpf .oge main_v0 main_v1
  let main_cst_0 : FVec F S_ .f32 := constant S_ .f32 0x42700000#32
  let main_v3 : FVec F S8192x4096 .f32 := broadcastInDim S8192x4096 ![] bcast_S_S8192x4096 main_cst_0
  let main_v4 : IVec S8192x4096 1 := cmpf .ole main_v0 main_v3
  let main_v5 : IVec S8192x4096 1 := andi main_v2 main_v4
  main_v5
-- ==== Kernel.lean ====
abbrev S8192x2048 : Shape := ⟨2, ![8192, 2048]⟩
abbrev S2048x4096 : Shape := ⟨2, ![2048, 4096]⟩
abbrev S1024x2048 : Shape := ⟨2, ![1024, 2048]⟩
abbrev S512x4096 : Shape := ⟨2, ![512, 4096]⟩
abbrev S3x2048x512 : Shape := ⟨3, ![3, 2048, 512]⟩
abbrev S2x2048x512 : Shape := ⟨3, ![2, 2048, 512]⟩
abbrev S2048x2048 : Shape := ⟨2, ![2048, 2048]⟩
abbrev S2048x512 : Shape := ⟨2, ![2048, 512]⟩
abbrev S3 : Shape := ⟨1, ![3]⟩
abbrev S_ : Shape := ⟨0, ![]⟩
abbrev S1x2048x512 : Shape := ⟨3, ![1, 2048, 512]⟩
abbrev S1 : Shape := ⟨1, ![1]⟩

abbrev nBuf : Space → Nat
  | .hbm => 5
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S2048x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S512x4096, .f32⟩
  | .local _ .vmem, ⟨5, _⟩ => ⟨S512x4096, .f32⟩
  | .local _ .vmem, ⟨6, _⟩ => ⟨S512x4096, .bf16⟩
  | .local _ .vmem, ⟨7, _⟩ => ⟨S512x4096, .bf16⟩
  | .local _ .vmem, ⟨8, _⟩ => ⟨S3x2048x512, .bf16⟩
  | .local _ .vmem, ⟨9, _⟩ => ⟨S3x2048x512, .bf16⟩
  | .local _ .vmem, ⟨10, _⟩ => ⟨S2x2048x512, .bf16⟩
  | .local _ .vmem, ⟨11, _⟩ => ⟨S2x2048x512, .bf16⟩
  | .local _ .vmem, ⟨12, _⟩ => ⟨S2048x2048, .bf16⟩
  | .local _ .vmem, ⟨13, _⟩ => ⟨S2048x2048, .bf16⟩
  | .local _ .vmem, ⟨14, _⟩ => ⟨S2048x512, .bf16⟩
  | .local _ .vmem, ⟨15, _⟩ => ⟨S2048x512, .bf16⟩
  | .local _ .vmem, ⟨16, _⟩ => ⟨S2048x512, .f32⟩
  | .local _ .vmem, ⟨17, _⟩ => ⟨S2048x512, .f32⟩
  | .local _ .vmem, ⟨18, _⟩ => ⟨S2048x512, .f32⟩
  | .local _ .vmem, ⟨19, _⟩ => ⟨S2048x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 3 → Bool
  | ⟨0, _⟩ => true
  | ⟨1, _⟩ => true
  | ⟨2, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 3 26 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_scratch0 : Ref sig .tc := ⟨.vmem, 8, rfl⟩
abbrev cc2_scratch1 : Ref sig .tc := ⟨.vmem, 9, rfl⟩
abbrev cc2_scratch2 : Ref sig .tc := ⟨.vmem, 10, rfl⟩
abbrev cc2_scratch3 : Ref sig .tc := ⟨.vmem, 11, rfl⟩
abbrev cc2_scratch4 : Ref sig .tc := ⟨.vmem, 12, rfl⟩
abbrev cc2_scratch5 : Ref sig .tc := ⟨.vmem, 13, rfl⟩
abbrev cc2_scratch6 : Ref sig .tc := ⟨.vmem, 14, rfl⟩
abbrev cc2_scratch7 : Ref sig .tc := ⟨.vmem, 15, rfl⟩
abbrev cc2_scratch8 : Ref sig .tc := ⟨.vmem, 16, rfl⟩
abbrev cc2_scratch9 : Ref sig .tc := ⟨.vmem, 17, rfl⟩
abbrev cc2_scratch10 : Ref sig .tc := ⟨.vmem, 18, rfl⟩
abbrev cc2_scratch11 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev barrier0 : Sem sig := 2

abbrev nD : Nat := 4
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := .none

def k2_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k2_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
@[reducible] def k2_t1_loop : Scf.Loop 32 :=
  let c0_i32_10 : BitVec 32 := 0#32
  let c4_i32_11 : BitVec 32 := 4#32
  let v13 : BitVec 32 := Scalar.addi c0_i32_10 c4_i32_11
  let c1_i32_12 : BitVec 32 := 1#32
  ⟨c0_i32_10, v13, c1_i32_12⟩
def k2_off1 (k2_t1 : Fin k2_t1_loop.trips) : Fin 2 → Nat :=
  let c0_i32_18 : BitVec 32 := 0#32
  let c0_i32_10 : BitVec 32 := 0#32
  let c1_i32_12 : BitVec 32 := 1#32
  let arg27 : BitVec 32 := Scf.iv c0_i32_10 c1_i32_12 k2_t1
  let c512_i32 : BitVec 32 := 512#32
  let v14 : BitVec 32 := Scalar.muli arg27 c512_i32
  ![0, v14.toNat]
def k2_off2 (k2_t1 : Fin k2_t1_loop.trips) : Fin 2 → Nat :=
  let c0_i32_19 : BitVec 32 := 0#32
  let c2048_i32 : BitVec 32 := 2048#32
  let c0_i32_10 : BitVec 32 := 0#32
  let c1_i32_12 : BitVec 32 := 1#32
  let arg27 : BitVec 32 := Scf.iv c0_i32_10 c1_i32_12 k2_t1
  let c512_i32_17 : BitVec 32 := 512#32
  let v15 : BitVec 32 := Scalar.muli arg27 c512_i32_17
  let v16 : BitVec 32 := Scalar.addi c2048_i32 v15
  ![0, v16.toNat]
def k2_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_20 : BitVec 32 := 4#32
  let v19 : BitVec 32 := Scalar.addi v2 c4_i32_20
  let c1_i32_21 : BitVec 32 := 1#32
  let v20 : BitVec 32 := Scalar.subi v19 c1_i32_21
  let c4_i32_22 : BitVec 32 := 4#32
  let v21 : BitVec 32 := Scalar.remsi v20 c4_i32_22
  let c2048_i32_25 : BitVec 32 := 2048#32
  let v24 : BitVec 32 := Scalar.muli v21 c2048_i32_25
  let c0_i32_27 : BitVec 32 := 0#32
  ![v24.toNat, 0]
def k2_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v22 : BitVec 32 := Scalar.addi v2 c1_i32_23
  let c4_i32_24 : BitVec 32 := 4#32
  let v23 : BitVec 32 := Scalar.remsi v22 c4_i32_24
  let c2048_i32_26 : BitVec 32 := 2048#32
  let v25 : BitVec 32 := Scalar.muli v23 c2048_i32_26
  let c0_i32_28 : BitVec 32 := 0#32
  ![v25.toNat, 0]
def k2_dev3 (d0 : Dev nD) : Nat :=
  let c0_i32_61 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_60 : BitVec 32 := 1#32
  let v56 : BitVec 32 := Scalar.muli v7 c1_i32_60
  let v57 : BitVec 32 := Scalar.addi c0_i32_61 v56
  v57.toNat
def k2_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_70 : BitVec 32 := 1#32
  let v66 : BitVec 32 := Scalar.muli v5 c1_i32_70
  let v67 : BitVec 32 := Scalar.addi c0_i32_71 v66
  v67.toNat
def k2_off5 (d0 : Dev nD) (c0_i32_49 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_47 : BitVec 32 := 4#32
  let v46 : BitVec 32 := Scalar.addi v2 c4_i32_47
  let c2_i32_48 : BitVec 32 := 2#32
  let v47 : BitVec 32 := Scalar.subi v46 c2_i32_48
  let v48 : BitVec 32 := Scalar.subi v47 c0_i32_49
  let c4_i32_50 : BitVec 32 := 4#32
  let v49 : BitVec 32 := Scalar.remsi v48 c4_i32_50
  let c2048_i32_76 : BitVec 32 := 2048#32
  let v76 : BitVec 32 := Scalar.muli v49 c2048_i32_76
  let c0_i32_78 : BitVec 32 := 0#32
  ![v76.toNat, 0]
def k2_off6 (d0 : Dev nD) (c0_i32_52 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_51 : BitVec 32 := 2#32
  let v50 : BitVec 32 := Scalar.addi v2 c2_i32_51
  let v51 : BitVec 32 := Scalar.addi v50 c0_i32_52
  let c4_i32_53 : BitVec 32 := 4#32
  let v52 : BitVec 32 := Scalar.remsi v51 c4_i32_53
  let c2048_i32_77 : BitVec 32 := 2048#32
  let v77 : BitVec 32 := Scalar.muli v52 c2048_i32_77
  let c0_i32_79 : BitVec 32 := 0#32
  ![v77.toNat, 0]
def k2_dev5 (d0 : Dev nD) : Nat :=
  let c0_i32_151 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_150 : BitVec 32 := 1#32
  let v140 : BitVec 32 := Scalar.muli v5 c1_i32_150
  let v141 : BitVec 32 := Scalar.addi c0_i32_151 v140
  v141.toNat
def k2_dev6 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_153 : BitVec 32 := 1#32
  let v142 : BitVec 32 := Scalar.muli v7 c1_i32_153
  let v143 : BitVec 32 := Scalar.addi c0_i32_154 v142
  v143.toNat
def k2_dev7 (d0 : Dev nD) : Nat :=
  let c0_i32_169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_168 : BitVec 32 := 1#32
  let v154 : BitVec 32 := Scalar.muli v7 c1_i32_168
  let v155 : BitVec 32 := Scalar.addi c0_i32_169 v154
  v155.toNat
def k2_dev8 (d0 : Dev nD) : Nat :=
  let c0_i32_179 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_178 : BitVec 32 := 1#32
  let v164 : BitVec 32 := Scalar.muli v5 c1_i32_178
  let v165 : BitVec 32 := Scalar.addi c0_i32_179 v164
  v165.toNat
def k2_dev9 (d0 : Dev nD) : Nat :=
  let c0_i32_260 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_259 : BitVec 32 := 1#32
  let v238 : BitVec 32 := Scalar.muli v5 c1_i32_259
  let v239 : BitVec 32 := Scalar.addi c0_i32_260 v238
  v239.toNat
def k2_dev10 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_262 : BitVec 32 := 1#32
  let v240 : BitVec 32 := Scalar.muli v7 c1_i32_262
  let v241 : BitVec 32 := Scalar.addi c0_i32_263 v240
  v241.toNat
def k2_dev11 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_277 : BitVec 32 := 1#32
  let v252 : BitVec 32 := Scalar.muli v7 c1_i32_277
  let v253 : BitVec 32 := Scalar.addi c0_i32_278 v252
  v253.toNat
def k2_dev12 (d0 : Dev nD) : Nat :=
  let c0_i32_288 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_287 : BitVec 32 := 1#32
  let v262 : BitVec 32 := Scalar.muli v5 c1_i32_287
  let v263 : BitVec 32 := Scalar.addi c0_i32_288 v262
  v263.toNat
def k2_dev13 (d0 : Dev nD) : Nat :=
  let c0_i32_366 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_365 : BitVec 32 := 1#32
  let v338 : BitVec 32 := Scalar.muli v5 c1_i32_365
  let v339 : BitVec 32 := Scalar.addi c0_i32_366 v338
  v339.toNat
def k2_dev14 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_368 : BitVec 32 := 1#32
  let v340 : BitVec 32 := Scalar.muli v7 c1_i32_368
  let v341 : BitVec 32 := Scalar.addi c0_i32_369 v340
  v341.toNat
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Rules.lean ====
/-
  The steps of a kernel on buffers a core OWNS AT KNOWN CONTENTS (`owns c m q X`: core c holds
  the elements memref m places at share q, and reads X through it): a load and a store of a
  whole memref or of a slot of it, a local copy begun and waited for, and what a slot reads
  after a copy between squeezed slots. No program is named here.
-/
module

public import Idealize.ShloMosaic.Lib.Memref
public import Idealize.ShloMosaic.Lib.MemrefSat
public import Idealize.ShloMosaic.Lib.Transfers
public import Idealize.ShloMosaic.Lib.Rounds
public import Idealize.ShloMosaic.Lib.Tactic
public import Idealize.ShloMosaic.PureOps
public import Idealize.ShloMosaic.Harness.Basic

@[expose] public section

noncomputable section

namespace Cert.Rules

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type}
variable {Name : Type} [DecidableEq Name] {U : Type} [URA U] {Lvl : Type} [Preorder Lvl] {Λ : Labels}

local notation "𝕄" => MT nD τ sig Ix Val Name U Lvl

/-- Core c owns the memref's elements outright, whatever they hold. -/
def some_ (c : Thread nD τ) {sp : Space} {sh : Shape} {e : EltTy} (m : Memref sig c.2.kind sp sh e) : sProp 𝕄 :=
  iprop(∃ X : sh.Idx → Val e, owns c m fullShare X)

instance some_storable (c : Thread nD τ) {sp : Space} {sh : Shape} {e : EltTy} (m : Memref sig c.2.kind sp sh e) :
    BI.Storable (upEmb : UEmb _ 𝕄) (some_ c m) := by unfold some_; infer_instance

/-- Owning at named contents is owning at some. -/
theorem some_intro (c : Thread nD τ) {sp : Space} {sh : Shape} {e : EltTy} (m : Memref sig c.2.kind sp sh e) (X : sh.Idx → Val e) :
    (owns c m fullShare X : sProp 𝕄) ⊢ some_ c m := by
  unfold some_; iintro H; iexists X; iexact H

section Views
variable {κ : Kind} {sp sp' : Space} {s s' s₂ : Shape} {e : EltTy}

/-- The offsets of a full-size rectangle are all zero, so it places every index at itself. -/
theorem emb_zero {s : Shape} {off : Fin s.rank → ℕ} (h0 : off = fun _ => 0) (inb : ∀ a, off a + s.size a ≤ s.size a) (i : s.Idx) :
    (Rect.unit (s := s) off s.size inb).emb i = i := by
  subst h0
  funext a
  apply Fin.ext
  show 0 + 1 * (i a).val = (i a).val
  omega

end Views

section Steps
variable {defs : Defs nD τ sig Val Λ} (𝒱 : Variants) (c : Thread nD τ) (bd : Option 𝒱.V)
variable {α : Type} {Q : α → sProp (MT nD τ sig Ix Val Name U Lvl)} {sp sp' : Space} {s s' : Shape} {e : EltTy}

/-- A load of a rectangle of a memref whose slice by it the core owns reads the contents owned. -/
theorem wp_load_slice {cs : CoreSpace} {m : Memref sig c.2.kind cs s e} {r : Rect s} {hl : m.view.LoadsAt r.toLoadRect}
    (hr : ∀ a, r.stride a = 1)
    {k : (r.shape.Idx → Val e) → Prog (TpuEff nD τ sig Val Λ c.2) α} {q : PosShare TreeShare} {X : r.shape.Idx → Val e} :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r.toLoadRect hl) k) Q) := by
  unfold owns
  iintro ⟨%f, %hf, H⟩ Hk
  subst hf
  iapply (wp_load_rect 𝒱 c bd Set.univ (m := m) (r := r) (S := (m.slice r hr).view.set) subset_rfl) $$ H
  iintro H
  iapply Hk
  iexists f
  isplitr; · ipureintro; rfl
  iexact H

/-- A load of a whole memref. -/
theorem wp_load_all {cs : CoreSpace} {m : Memref sig c.2.kind cs s e} {off : Fin s.rank → ℕ} {inb : ∀ a, off a + s.size a ≤ s.size a}
    {hl : m.view.LoadsAt (Rect.unit (s := s) off s.size inb).toLoadRect} (h0 : off = fun _ => 0)
    {k : (s.Idx → Val e) → Prog (TpuEff nD τ sig Val Λ c.2) α} {q : PosShare TreeShare} {X : s.Idx → Val e} :
    (owns c m q X : sProp 𝕄)
      ⊢ iprop((owns c m q X -∗ wp frame (wpE defs 𝒱 c bd) Set.univ (k X) Q)
        -∗ wp frame (wpE defs 𝒱 c bd) Set.univ (.op (.load m (Rect.unit (s := s) off s.size inb).toLoadRect hl) k) Q) := by
  unfold owns
  iintro ⟨%f, %hf, H⟩ Hk
  have hread : (m.access (Rect.unit (s := s) off s.size inb)).read Val f = X := by
    rw [← hf]
    funext i
    show m.view.read Val f ((Rect.unit (s := s) off s.size inb).emb i) = _
    rw [emb_zero h0]
  iapply (wp_load_rect 𝒱 c bd Set.univ (m := m) (r := Rect.unit (s := s) off s.size inb) (S := m.view.set)
    (m.view.set_slice_subset _)) $$ H
  rw [hread]
  iintro H
  iapply Hk
  iexists f
  isplitr; · ipureintro; exact hf
  iexact H

/-- A store of every element of a rectangle of a memref whose slice by it the core owns. -/
theorem wp_store_slice {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    (hr : ∀ a, r.stride a = 1)
    {k : PUnit → Prog (TpuEff nD τ sig Val Λ c.2) α} :
    (some_ c (m.slice r hr) : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  unfold some_ owns
  iintro ⟨%X, %f, %hf, H⟩ Hk
  iapply (wp_store 𝒱 c bd Set.univ (m := m) (r := r) (w := w) (Mk := Finset.univ) (hx := hx) (hm := hm)
    (S := (m.slice r hr).view.set) (subset_of_eq rfl)) $$ H
  iintro H
  iapply Hk
  iexists _
  isplitr; swap; · iexact H
  ipureintro
  exact View.read_write_univ _ _

/-- A store of a whole memref. -/
theorem wp_store_all {cs : CoreSpace} {m : Memref sig c.2.kind cs s e} {off : Fin s.rank → ℕ} {inb : ∀ a, off a + s.size a ≤ s.size a}
    {w : s.Idx → Val e}
    {hx : (m.access (Rect.unit (s := s) off s.size inb)).Stores Finset.univ}
    {hm : (Finset.univ : Finset s.Idx) = Finset.univ ∨ ∀ a, (Rect.unit (s := s) off s.size inb).stride a = 1}
    (h0 : off = fun _ => 0)
    {k : PUnit → Prog (TpuEff nD τ sig Val Λ c.2) α} :
    (some_ c m : sProp 𝕄)
      ⊢ iprop((owns c m fullShare w -∗ wp frame (wpE defs 𝒱 c bd) Set.univ (k ⟨⟩) Q)
        -∗ wp frame (wpE defs 𝒱 c bd) Set.univ (.op (.store m (Rect.unit (s := s) off s.size inb) w Finset.univ hx hm) k) Q) := by
  unfold some_ owns
  iintro ⟨%X, %f, %hf, H⟩ Hk
  iapply (wp_store 𝒱 c bd Set.univ (m := m) (r := Rect.unit (s := s) off s.size inb) (w := w) (Mk := Finset.univ) (hx := hx) (hm := hm)
    (S := m.view.set) (m.view.set_slice_subset _)) $$ H
  iintro H
  iapply Hk
  iexists _
  isplitr; swap; · iexact H
  ipureintro
  funext i
  have h := congrFun (View.read_write_univ (Val := Val) (v := m.access (Rect.unit (s := s) off s.size inb)) f w) i
  rw [← h]
  show m.view.read Val _ i = m.view.read Val _ ((Rect.unit (s := s) off s.size inb).emb i)
  rw [emb_zero h0]

end Steps

section Copies
open Transfers
variable (EC : UEmb Counters (MT nD τ sig Ix Val Name U Lvl))
variable {defs : Defs nD τ sig Val Λ} (𝒱 : Variants) (c : Thread nD τ) (bd : Option 𝒱.V)
variable {α : Type} {Q : α → sProp (MT nD τ sig Ix Val Name U Lvl)} {sp sp' : Space} {s s' : Shape} {e : EltTy}

/-- A local copy under way on cell (c, sm): N units will have landed when it is waited for, which hands over P. -/
def Moves (sm : SemLoc sig) (ι : Ix) (N : ℕ) (P : sProp 𝕄) : sProp 𝕄 :=
  iprop(∃ D : sProp 𝕄, Flight EC c sm ι N D ∗ (D -∗ P))

/-- Begin the copy of a slice of a buffer held at a share into a memref held outright. -/
theorem wp_copy_in [Infinite Name] [EC.LandsIn (upEmb : UEmb _ 𝕄)] {m : Memref sig c.2.kind sp s e} {r : Rect s}
    {hr : ∀ a, r.stride a = 1} {dst : Memref sig c.2.kind sp' r.shape e} {sm : SemLoc sig}
    {hsrc : (m.slice r hr).view.WordExact} {hdst : dst.view.WordExact} {hsem : DmaTarget.Typed (nD := nD) sp sm (.here dst)}
    {k : PUnit → Prog (TpuEff nD τ sig Val Λ c.2) α} {q : PosShare TreeShare} {X : s.Idx → Val e}
    (ι : Ix) (N : ℕ) (hN : dst.view.amount sm = N) (hN0 : 0 < N) :
    iprop(owns c m q X ∗ some_ c dst ∗ semVal (c, sm) 0)
      ⊢ iprop((Moves EC c sm ι N iprop(owns c m q X ∗ owns c dst fullShare (fun i => X (r.emb i)))
              -∗ wp frame (wpE defs 𝒱 c bd) Set.univ (k ⟨⟩) Q)
          -∗ wp frame (wpE defs 𝒱 c bd) Set.univ (.op (.enqueueDma (m.slice r hr) (.here dst) sm hsrc hdst hsem) k) Q) := by
  unfold some_ owns
  iintro ⟨⟨%f, %hf, Hs⟩, ⟨%Y, %g, %hg, Hd⟩, Hv⟩ Hk
  subst hf
  ihave H := (pointsTo_split_subset (m.view.set_slice_subset r)).1 $$ Hs
  icases H with ⟨Hs, Hrest⟩
  iapply (wp_dmaLocal EC 𝒱 c bd (src := m.slice r hr) (dst := dst) (fs := f) (fd := g) ι N hN hN0 subset_rfl) $$ [Hs Hd Hv]
  · isplitl [Hs]; · iexact Hs
    isplitl [Hd]; · iexact Hd
    iexact Hv
  iintro Hf
  iapply Hk
  unfold Moves
  iexists _
  isplitl [Hf]; · iexact Hf
  iintro ⟨Hd, Hs⟩
  isplitl [Hs Hrest]
  · iexists f
    isplitr; · ipureintro; rfl
    iapply (pointsTo_split_subset (m.view.set_slice_subset r)).2
    isplitl [Hs] <;> iassumption
  · iexists _
    isplitr; swap; · iexact Hd
    ipureintro
    exact View.read_write_univ _ _

/-- Begin the copy of a memref held outright into another. -/
theorem wp_copy_out [Infinite Name] [EC.LandsIn (upEmb : UEmb _ 𝕄)] {src : Memref sig c.2.kind sp s e}
    {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X : s.Idx → Val e}
    (ι : Ix) (N : ℕ) (hN : dst.view.amount sm = N) (hN0 : 0 < N) :
    iprop(owns c src q X ∗ some_ c dst ∗ semVal (c, sm) 0)
      ⊢ iprop((Moves EC c sm ι N iprop(owns c src q X ∗ owns c dst fullShare X)
              -∗ wp frame (wpE defs 𝒱 c bd) Set.univ (k ⟨⟩) Q)
          -∗ wp frame (wpE defs 𝒱 c bd) Set.univ (.op (.enqueueDma src (.here dst) sm hsrc hdst hsem) k) Q) := by
  unfold some_ owns
  iintro ⟨⟨%f, %hf, Hs⟩, ⟨%Y, %g, %hg, Hd⟩, Hv⟩ Hk
  subst hf
  iapply (wp_dmaLocal EC 𝒱 c bd (src := src) (dst := dst) (fs := f) (fd := g) ι N hN hN0 subset_rfl) $$ [Hs Hd Hv]
  · isplitl [Hs]; · iexact Hs
    isplitl [Hd]; · iexact Hd
    iexact Hv
  iintro Hf
  iapply Hk
  unfold Moves
  iexists _
  isplitl [Hf]; · iexact Hf
  iintro ⟨Hd, Hs⟩
  isplitl [Hs]
  · iexists f
    isplitr; · ipureintro; rfl
    iexact Hs
  · iexists _
    isplitr; swap; · iexact Hd
    ipureintro
    exact View.read_write_univ _ _

/-- Wait for a local copy, owing O. -/
theorem wp_copy_wait [EC.LandsIn (upEmb : UEmb _ 𝕄)] {s' : Shape} {e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig Val Λ c.2) α} (ι : Ix) {N : ℕ} (hN : dstw.view.dmaCredit = N) {P : sProp 𝕄}
    {O : CellTallies nD τ sig Ix} :
    iprop(Moves EC c (.dma sem) ι N P ∗ (∃ W, owes c O W) ∗ MayWait c (.dma sem) ι O)
      ⊢ iprop((iprop(P ∗ semVal (c, .dma sem) 0 ∗ (∃ W, owes c O W)) -∗ wp frame (wpE defs 𝒱 c bd) Set.univ (k ⟨⟩) Q)
          -∗ wp frame (wpE defs 𝒱 c bd) Set.univ (.op (.waitDma2 sem srcw dstw hsrc hdst) k) Q) := by
  unfold Moves
  iintro ⟨⟨%D, Hf, HD⟩, ⟨%W, HO⟩, HW⟩ Hk
  iapply (wp_waitLocalO EC 𝒱 c bd ι hN (W := W)) $$ [Hf HO HW]
  · isplitl [Hf]; · iexact Hf
    isplitl [HO] <;> iassumption
  iintro ⟨HDD, Hv, HO⟩
  iapply Hk
  isplitl [HDD HD]
  · iapply HD $$ HDD
  isplitl [Hv]; · iexact Hv
  iexists _; iexact HO

end Copies

section Squeezed
variable {sp sp' : Space} {s s' : Shape} {e : EltTy}

/-- After every element of one memref has been rewritten, through its squeeze, by what the squeeze of another
    reads, the first reads what the other reads. -/
theorem read_write_squeeze {κ κ' : Kind} (src : Memref sig κ sp s e) (dst : Memref sig κ' sp' s e) (h : s.Squeezes s')
    (f : dst.view.ty.Contents Val) (g : src.view.ty.Contents Val) :
    dst.view.read Val ((dst.squeeze s' h).view.write Val f ((src.squeeze s' h).view.read Val g) Finset.univ)
      = src.view.read Val g := by
  have h1 := View.read_write_univ (Val := Val) (v := (dst.squeeze s' h).view) f ((src.squeeze s' h).view.read Val g)
  funext i
  have h2 := congrFun h1 ((Shape.reshapeEquiv h.numel_eq).symm i)
  have e1 : ∀ x, (dst.squeeze s' h).view.read Val x ((Shape.reshapeEquiv h.numel_eq).symm i) = dst.view.read Val x i := fun x => by
    show dst.view.read Val x ((Shape.reshapeEquiv h.numel_eq) ((Shape.reshapeEquiv h.numel_eq).symm i)) = _
    rw [Equiv.apply_symm_apply]
  have e2 : (src.squeeze s' h).view.read Val g ((Shape.reshapeEquiv h.numel_eq).symm i) = src.view.read Val g i := by
    show src.view.read Val g ((Shape.reshapeEquiv h.numel_eq) ((Shape.reshapeEquiv h.numel_eq).symm i)) = _
    rw [Equiv.apply_symm_apply]
  rw [e1, e2] at h2
  exact h2

end Squeezed

end Cert.Rules
-- ==== Proof.IdealSched.lean ====
/-
  The ring's protocol, for a symbolic device c of the four. The kernel runs two rings at once,
  one per half of the columns: in ring true every device sends to the device after it, in ring
  false to the one before it. Each definition below has the ring δ as an argument.

  In pass b (of 4: a block of 512 columns) and hop h (of 3) a device sends its partial sum
  V δ c b h from its send buffer into slot h of the next device's receive buffer. A slot is
  handed back by the OTHER ring: the device that has read slot h sends it along with its next
  transfer in the ring that runs the opposite way, whose target is the slot's writer.
-/
module

public import proofs.«01_k».proof.Proof.Rules
public import proofs.«01_k».proof.Proof.Gen.KernelIdeal.Skeleton
public import Idealize.ShloMosaic.Lib.Pipeline.SiteBlocks
public import Idealize.ShloMosaic.Lib.Pipeline.TalkSites

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

/-! ## The algebra -/

/-- The rounds' component: duties are numbers. -/
abbrev UB : Type := URounds (GSem nD τ sig) ℕ
/-- The pipelines' component, the rounds', and the local copies' counters. -/
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × Counters)).trans embR
instance ER_landsIn : (ER (F := F)).LandsIn (upEmb : UEmb _ (MT nD τ sig ℕ (Elt F) ℕ UU ℕ)) := by
  unfold ER; infer_instance
abbrev EC : UEmb Counters (MT nD τ sig ℕ (Elt F) ℕ UU ℕ) := countersEmb

/-! ## Devices, buffers, semaphores -/

/-- The device a ring sends to: after c in ring true, before it in ring false. -/
def nxt (δ : Bool) (c : Dev nD) : Dev nD :=
  if δ then ⟨(c.val + 1) % 4, Nat.mod_lt _ (by decide)⟩ else ⟨(c.val + 3) % 4, Nat.mod_lt _ (by decide)⟩

theorem nxt_nxt (δ : Bool) (c : Dev nD) : nxt δ (nxt (!δ) c) = c := by revert δ c; decide
theorem nxt_nxt' (δ : Bool) (c : Dev nD) : nxt (!δ) (nxt δ c) = c := by revert δ c; decide

abbrev recvB : Bool → Memref sig .tc .vmem S3x2048x512 .bf16
  | true => Memref.whole cc2_scratch0 | false => Memref.whole cc2_scratch1
abbrev sendB : Bool → Memref sig .tc .vmem S2x2048x512 .bf16
  | true => Memref.whole cc2_scratch2 | false => Memref.whole cc2_scratch3
abbrev xB : Bool → Memref sig .tc .vmem S2048x2048 .bf16
  | true => Memref.whole cc2_scratch4 | false => Memref.whole cc2_scratch5
abbrev wB : Bool → Memref sig .tc .vmem S2048x512 .bf16
  | true => Memref.whole cc2_scratch6 | false => Memref.whole cc2_scratch7
abbrev gB : Bool → Memref sig .tc .vmem S2048x512 .f32
  | true => Memref.whole cc2_scratch8 | false => Memref.whole cc2_scratch9
abbrev oB : Bool → Memref sig .tc .vmem S2048x512 .f32
  | true => Memref.whole cc2_scratch10 | false => Memref.whole cc2_scratch11
abbrev xH : Memref sig .tc .hbm S8192x2048 .bf16 := Memref.whole main_v1
abbrev wH : Memref sig .tc .hbm S2048x4096 .bf16 := Memref.whole main_v2
abbrev oH : Memref sig .tc .hbm S2048x4096 .f32 := Memref.whole main_v3

theorem inb3 (h : Fin 3) : ∀ a, (![h.val, 0, 0] : Fin 3 → ℕ) a + S1x2048x512.size a ≤ S3x2048x512.size a := by
  revert h; decide
theorem inb2 (h : Fin 2) : ∀ a, (![h.val, 0, 0] : Fin 3 → ℕ) a + S1x2048x512.size a ≤ S2x2048x512.size a := by
  revert h; decide

/-- Slot h of a ring's receive buffer, and slot j of its send buffer. -/
abbrev slot (δ : Bool) (h : Fin 3) : Memref sig .tc .vmem S1x2048x512 .bf16 :=
  (recvB δ).slice (Rect.unit (s := S3x2048x512) ![h.val, 0, 0] S1x2048x512.size (inb3 h)) (fun _ => rfl)
abbrev sbuf (δ : Bool) (j : Fin 2) : Memref sig .tc .vmem S1x2048x512 .bf16 :=
  (sendB δ).slice (Rect.unit (s := S2x2048x512) ![j.val, 0, 0] S1x2048x512.size (inb2 j)) (fun _ => rfl)
/-- The same without the axis of extent one: what the transfers name. -/
abbrev slotQ (δ : Bool) (h : Fin 3) : Memref sig .tc .vmem S2048x512 .bf16 := (slot δ h).squeeze S2048x512 squeezes_S1x2048x512_S2048x512
abbrev sbufQ (δ : Bool) (j : Fin 2) : Memref sig .tc .vmem S2048x512 .bf16 := (sbuf δ j).squeeze S2048x512 squeezes_S1x2048x512_S2048x512
/-- The send buffer's slot of hop h. -/
def cur (h : Fin 3) : Fin 2 := ⟨h.val % 2, Nat.mod_lt _ (by decide)⟩

abbrev dsem (k : ℕ) (hk : k < 26) : DmaSem sig := ⟨k, hk⟩
abbrev rsem (k : ℕ) (hk : k < 3) : Sem sig := ⟨k, hk⟩

/-- The semaphores: a transfer's at its source and at its target, the local copies' of x, w and the result,
    the credits', the barrier's. -/
def sS (δ : Bool) (h : Fin 3) : DmaSem sig := dsem ((if δ then 8 else 14) + h.val) (by cases δ <;> simp <;> omega)
def sR (δ : Bool) (h : Fin 3) : DmaSem sig := dsem ((if δ then 11 else 17) + h.val) (by cases δ <;> simp <;> omega)
def sX (δ : Bool) : DmaSem sig := dsem (if δ then 20 else 21) (by cases δ <;> simp)
def sW (δ : Bool) : DmaSem sig := dsem (if δ then 22 else 23) (by cases δ <;> simp)
def sO (δ : Bool) : DmaSem sig := dsem (if δ then 24 else 25) (by cases δ <;> simp)
def sC (δ : Bool) : Sem sig := rsem (if δ then 0 else 1) (by cases δ <;> simp)
def sB : Sem sig := rsem 2 (by decide)

abbrev cellS (δ : Bool) (h : Fin 3) (c : Dev nD) : GSem nD τ sig := ((c : Thread nD τ), .dma (sS δ h))
abbrev cellR (δ : Bool) (h : Fin 3) (c : Dev nD) : GSem nD τ sig := ((c : Thread nD τ), .dma (sR δ h))
abbrev cellC (δ : Bool) (c : Dev nD) : GSem nD τ sig := ((c : Thread nD τ), .reg (sC δ))
abbrev cellB (c : Dev nD) : GSem nD τ sig := ((c : Thread nD τ), .reg sB)

/-- The units of one transfer between devices. -/
abbrev N : ℕ := (slotQ true 0).view.dmaCredit
theorem N_pos : 0 < N := View.dmaCredit_pos _ (by decide)
theorem N_slot (δ : Bool) (h : Fin 3) : (slotQ δ h).view.dmaCredit = N := by cases δ <;> rfl
theorem N_sbuf (δ : Bool) (j : Fin 2) : (sbufQ δ j).view.dmaCredit = N := by cases δ <;> rfl

/-! ## The values -/

/-- Block k of 2048 rows of x, and the 512 columns of w from column j on. -/
theorem inbX (k : Fin 4) : ∀ a, (![2048 * k.val, 0] : Fin 2 → ℕ) a + S2048x2048.size a ≤ S8192x2048.size a := by
  revert k; decide
def xrow (X : S8192x2048.Idx → Elt F .bf16) (k : Fin 4) : S2048x2048.Idx → Elt F .bf16 :=
  fun i => X ((Rect.unit (s := S8192x2048) ![2048 * k.val, 0] S2048x2048.size (inbX k)).emb i)
/-- Column block k of 512 columns: pass b works on block b in ring true, on block b + 4 in ring false. -/
def colk (δ : Bool) (b : ℕ) : Fin 8 := ⟨b % 4 + (if δ then 0 else 4), by split <;> omega⟩
theorem inbW (k : Fin 8) : ∀ a, (![0, 512 * k.val] : Fin 2 → ℕ) a + S2048x512.size a ≤ S2048x4096.size a := by
  revert k; decide
abbrev colR (k : Fin 8) : Rect S2048x4096 := Rect.unit (s := S2048x4096) ![0, 512 * k.val] S2048x512.size (inbW k)
def wcol (W : S2048x4096.Idx → Elt F .bf16) (k : Fin 8) : S2048x512.Idx → Elt F .bf16 := fun i => W ((colR k).emb i)
/-- The block of rows of x device c multiplies in hop h. -/
def xk (δ : Bool) (c : Dev nD) (h : ℕ) : Fin 4 :=
  if δ then ⟨(c.val + 3 - h) % 4, Nat.mod_lt _ (by decide)⟩ else ⟨(c.val + 1 + h) % 4, Nat.mod_lt _ (by decide)⟩

variable (X : Dev nD → S8192x2048.Idx → Elt F .bf16) (W : Dev nD → S2048x4096.Idx → Elt F .bf16)

/-- What device c sends in ring δ, pass b, hop h: its own product in hop 0, and after that its own product added to what
    the device before it sent in the hop before. -/
def V (δ : Bool) (b : ℕ) : ℕ → Dev nD → (S1x2048x512.Idx → Elt F .bf16)
  | 0, c => k2_pay3 (xrow (X c) (xk δ c 0)) (wcol (W c) (colk δ b))
  | h + 1, c => k2_pay8 (k2_pay5 (xrow (X c) (xk δ c (h + 1))) (wcol (W c) (colk δ b))) (V δ b h (nxt (!δ) c))
/-- What device c writes out in ring δ, pass b. -/
def outV (δ : Bool) (b : ℕ) (c : Dev nD) : S2048x512.Idx → Elt F .f32 :=
  k2_pay1 (k2_pay16 (k2_pay5 (xrow (X c) (xk δ c 3)) (wcol (W c) (colk δ b))) (V X W δ b 2 (nxt (!δ) c)))

/-! ## The schedule -/

/-- Device d owns its slot h of ring δ, whatever it holds, and round r of the slot's cell has been reached: what a
    transfer into it asks for. -/
def slotAt (δ : Bool) (h : Fin 3) (d : Dev nD) (r : ℕ) : sProp 𝕄 :=
  iprop(some_ (d : Thread nD τ) (slot δ h) ∗ reached ER (cellR δ h d) r)
instance slotAt_storable (δ : Bool) (h : Fin 3) (d : Dev nD) (r : ℕ) : BI.Storable (upEmb : UEmb _ 𝕄) (slotAt (F := F) δ h d r) := by
  unfold slotAt; infer_instance

/-- The slot of the other ring that device c sends along with its transfer of pass b, hop h in ring δ: the one it has
    read last, if its writer still needs it. -/
def extra (δ : Bool) (b : ℕ) (h : Fin 3) (c : Dev nD) : sProp 𝕄 :=
  match h with
  | 0 => if b = 0 then iprop(emp) else slotAt (!δ) 2 c b
  | 1 => if b < 3 then slotAt (!δ) 0 c (b + 1) else iprop(emp)
  | 2 => if b < 3 then slotAt (!δ) 1 c (b + 1) else iprop(emp)
instance extra_storable (δ : Bool) (b : ℕ) (h : Fin 3) (c : Dev nD) : BI.Storable (upEmb : UEmb _ 𝕄) (extra (F := F) δ b h c) := by
  unfold extra; split <;> split <;> infer_instance

/-- What the landing of a transfer hands the target c: its slot, at what was sent, and a slot of the sender's. -/
def recvPay (δ : Bool) (h : Fin 3) (c : Dev nD) (b : ℕ) : sProp 𝕄 :=
  iprop(owns (c : Thread nD τ) (slot δ h) fullShare (V X W δ b h.val (nxt (!δ) c)) ∗ extra δ b h (nxt (!δ) c))
/-- What the completion of a transfer hands its sender: the send buffer's slot. -/
def sendPay (δ : Bool) (h : Fin 3) (c : Dev nD) : sProp 𝕄 := some_ (c : Thread nD τ) (sbuf δ (cur h))
/-- What the barrier's units hand device c: the slots it writes, of the device after it (duty 0) and of the device
    before it (duty 1), and that this device's credit cell of the other ring is open. -/
def barPay (δ : Bool) (c : Dev nD) : sProp 𝕄 :=
  iprop((slotAt δ 0 (nxt δ c) 0 ∗ slotAt δ 1 (nxt δ c) 0 ∗ slotAt δ 2 (nxt δ c) 0) ∗ reached ER (cellC (!δ) (nxt δ c)) 0)

def fin3 (k : ℕ) : Fin 3 := ⟨k % 3, Nat.mod_lt _ (by decide)⟩

/-- Cells of DMA semaphores 8 to 19: one duty in each of rounds 0 to 3 (a round per pass). Credit cells: one round of 12
    unit duties. Barrier cells: one round of two unit duties. -/
def Rd : Schedule (GSem nD τ sig) ℕ 𝕄 where
  duties g r := match g.2 with
    | .reg k => if r = 0 then (if k.val = 2 then {0, 1} else Finset.range 12) else ∅
    | .dma k => if (8 ≤ k.val ∧ k.val < 20) ∧ r < 4 then {0} else ∅
  amount g _ _ := match g.2 with
    | .reg _ => 1
    | .dma _ => N
  payload g r d := match g.2 with
    | .reg k => if k.val = 2 then barPay (decide (d = 0)) g.1.1 else iprop(emp)
    | .dma k => if k.val < 11 then sendPay true (fin3 (k.val - 8)) g.1.1
        else if k.val < 14 then recvPay X W true (fin3 (k.val - 11)) g.1.1 r
        else if k.val < 17 then sendPay false (fin3 (k.val - 14)) g.1.1
        else recvPay X W false (fin3 (k.val - 17)) g.1.1 r
  amount_pos g r d _ := by
    rcases g with ⟨t, sm⟩; cases sm
    · exact Nat.one_pos
    · exact N_pos

instance Rd_storable (g : GSem nD τ sig) (r : ℕ) (d : ℕ) : BI.Storable (upEmb : UEmb _ 𝕄) ((Rd X W).payload g r d) := by
  rcases g with ⟨t, sm⟩
  cases sm with
  | reg k =>
    show BI.Storable upEmb (if k.val = 2 then barPay (decide (d = 0)) t.1 else iprop(emp))
    unfold barPay; split <;> infer_instance
  | dma k =>
    show BI.Storable upEmb (if k.val < 11 then sendPay true (fin3 (k.val - 8)) t.1
        else if k.val < 14 then recvPay X W true (fin3 (k.val - 11)) t.1 r
        else if k.val < 17 then sendPay false (fin3 (k.val - 14)) t.1
        else recvPay X W false (fin3 (k.val - 17)) t.1 r)
    unfold sendPay recvPay; split <;> [infer_instance; split] <;> [infer_instance; split] <;> infer_instance

theorem duties_S (δ : Bool) (h : Fin 3) (c : Dev nD) {r : ℕ} (hr : r < 4) : (Rd X W).duties (cellS δ h c) r = {0} := by
  have : 8 ≤ (sS δ h).val ∧ (sS δ h).val < 20 := by revert δ h; decide
  show (if (8 ≤ (sS δ h).val ∧ (sS δ h).val < 20) ∧ r < 4 then ({0} : Finset ℕ) else ∅) = {0}
  rw [if_pos ⟨this, hr⟩]
theorem duties_R (δ : Bool) (h : Fin 3) (c : Dev nD) {r : ℕ} (hr : r < 4) : (Rd X W).duties (cellR δ h c) r = {0} := by
  have : 8 ≤ (sR δ h).val ∧ (sR δ h).val < 20 := by revert δ h; decide
  show (if (8 ≤ (sR δ h).val ∧ (sR δ h).val < 20) ∧ r < 4 then ({0} : Finset ℕ) else ∅) = {0}
  rw [if_pos ⟨this, hr⟩]
theorem duties_C (δ : Bool) (c : Dev nD) : (Rd X W).duties (cellC δ c) 0 = Finset.range 12 := by cases δ <;> rfl
theorem duties_B (c : Dev nD) : (Rd X W).duties (cellB c) 0 = {0, 1} := rfl
theorem duties_dma_later (d : Dev nD) (k : DmaSem sig) {r : ℕ} (hr : 4 ≤ r) :
    (Rd X W).duties ((d : Thread nD τ), .dma k) r = ∅ := by
  show (if (8 ≤ k.val ∧ k.val < 20) ∧ r < 4 then ({0} : Finset ℕ) else ∅) = ∅
  rw [if_neg (by omega)]
theorem duties_reg_later (d : Dev nD) (k : Sem sig) {r : ℕ} (hr : 1 ≤ r) :
    (Rd X W).duties ((d : Thread nD τ), .reg k) r = ∅ := by
  show (if r = 0 then (if k.val = 2 then {0, 1} else Finset.range 12) else ∅) = ∅
  rw [if_neg (by omega)]

theorem payload_S (δ : Bool) (h : Fin 3) (c : Dev nD) (r d : ℕ) : (Rd X W).payload (cellS δ h c) r d = sendPay δ h c := by
  cases δ <;> fin_cases h <;> rfl
theorem payload_R (δ : Bool) (h : Fin 3) (c : Dev nD) (r d : ℕ) : (Rd X W).payload (cellR δ h c) r d = recvPay X W δ h c r := by
  cases δ <;> fin_cases h <;> rfl
theorem payload_C (δ : Bool) (c : Dev nD) (r d : ℕ) : (Rd X W).payload (cellC δ c) r d = iprop(emp) := by cases δ <;> rfl
theorem payload_B (c : Dev nD) (r d : ℕ) : (Rd X W).payload (cellB c) r d = barPay (decide (d = 0)) c := rfl

theorem expect_S (δ : Bool) (h : Fin 3) (c : Dev nD) {r : ℕ} (hr : r < 4) : (Rd X W).expect (cellS δ h c) r = N := by
  unfold Schedule.expect Schedule.amountOf; rw [duties_S X W δ h c hr, Finset.sum_singleton]; rfl
theorem expect_R (δ : Bool) (h : Fin 3) (c : Dev nD) {r : ℕ} (hr : r < 4) : (Rd X W).expect (cellR δ h c) r = N := by
  unfold Schedule.expect Schedule.amountOf; rw [duties_R X W δ h c hr, Finset.sum_singleton]; rfl
theorem expect_C (δ : Bool) (c : Dev nD) : (Rd X W).expect (cellC δ c) 0 = 12 := by
  unfold Schedule.expect Schedule.amountOf; rw [duties_C X W δ c]; rfl
theorem expect_B (c : Dev nD) : (Rd X W).expect (cellB c) 0 = 2 := by
  unfold Schedule.expect Schedule.amountOf; rw [duties_B X W c]; rfl

/-! ## The dues and their levels -/

/-- A signal's index is its level: transfer T (of 12) lands at 2 + 2 T, credit T is given at 3 + 2 T; the credits no
    transfer waits for, the last three, at 40; the barrier at 1; a core's own copies at 0. -/
def ixR (T : ℕ) : ℕ := 2 + 2 * T
def ixC (T : ℕ) : ℕ := if T < 9 then 3 + 2 * T else 40
abbrev NL : ℕ := 64
abbrev LL : GSem nD τ sig → Finset ℕ := SiteBlocks.L NL
abbrev lv : GSem nD τ sig → ℕ → ℕ := SiteBlocks.lv

/-- What device c owes in hop T: the transfers' landings in both rings, and the credits it gives the devices that write
    its slots. -/
abbrev dueR (δ : Bool) (T : ℕ) (c : Dev nD) : CellTallies nD τ sig ℕ := tallyAt (cellR δ (fin3 T) (nxt δ c)) (ixR T) N
abbrev dueC (δ : Bool) (T : ℕ) (c : Dev nD) : CellTallies nD τ sig ℕ := tallyAt (cellC δ (nxt (!δ) c)) (ixC T) 1
/-- What device c owes from hop 12 - n on. -/
def duesN (c : Dev nD) : ℕ → CellTallies nD τ sig ℕ
  | 0 => 0
  | n + 1 => duesN c n + dueC false (11 - n) c + dueC true (11 - n) c + dueR false (11 - n) c + dueR true (11 - n) c
def dues (T : ℕ) (c : Dev nD) : CellTallies nD τ sig ℕ := duesN c (12 - T)
theorem dues_end (c : Dev nD) : dues 12 c = 0 := rfl
theorem dues_step {T : ℕ} (hT : T < 12) (c : Dev nD) :
    dues T c = dues (T + 1) c + dueC false T c + dueC true T c + dueR false T c + dueR true T c := by
  unfold dues
  obtain ⟨n, hn⟩ : ∃ n, 12 - T = n + 1 := ⟨11 - T, by omega⟩
  rw [hn, show 12 - (T + 1) = n by omega, duesN, show 11 - n = T by omega]

/-- Every unit of O is owed at an index above b. -/
def Above (b : ℕ) (O : CellTallies nD τ sig ℕ) : Prop := ∀ g k, 0 < O g k → b < k ∧ k ∈ LL g
theorem above_zero (b : ℕ) : Above b 0 := fun _ _ h => absurd h (Nat.lt_irrefl 0)
theorem above_add {b : ℕ} {O O' : CellTallies nD τ sig ℕ} (h : Above b O) (h' : Above b O') : Above b (O + O') := fun g k hk => by
  rcases Nat.eq_zero_or_pos (O g k) with h0 | h0
  · refine h' g k ?_
    have : (O + O') g k = O g k + O' g k := rfl
    omega
  · exact h g k h0
theorem above_tally {b i : ℕ} (g : GSem nD τ sig) (n : ℕ) (hg : g.1.2 = .tc) (hi : b < i) (hN : i < NL) : Above b (tallyAt g i n) := by
  intro g' k hk
  have hh : g' = g ∧ k = i := by
    by_contra hne
    have : tallyAt g i n g' k = 0 := by
      by_cases h1 : g' = g
      · subst h1
        have h2 : k ≠ i := fun h => hne ⟨rfl, h⟩
        simp [tallyAt, tallyOn, Finsupp.single_apply, h2.symm]
      · simp [tallyAt, tallyOn, h1]
    omega
  rw [hh.1, hh.2]
  exact ⟨hi, SiteBlocks.mem_L' hg hN⟩
theorem above_dueR {b T : ℕ} (δ : Bool) (c : Dev nD) (hb : b < ixR T) (hT : T < 12) : Above b (dueR δ T c) :=
  above_tally _ _ rfl hb (show ixR T < 64 by unfold ixR; omega)
theorem above_dueC {b T : ℕ} (δ : Bool) (c : Dev nD) (hb : b < 3 + 2 * T) (hT : T < 12) : Above b (dueC δ T c) :=
  above_tally _ _ rfl (by unfold ixC; split <;> omega) (show ixC T < 64 by unfold ixC; split <;> omega)
theorem above_dues {b T : ℕ} (c : Dev nD) (hT : T ≤ 12) (hb : b < ixR T) : Above b (dues T c) := by
  unfold dues
  have : ∀ n, n ≤ 12 → (b < ixR (12 - n)) → Above b (duesN c n) := by
    intro n
    induction n with
    | zero => intro _ _; exact above_zero b
    | succ n ih =>
      intro hn hb
      unfold ixR at hb
      rw [duesN]
      refine above_add (above_add (above_add (above_add (ih (by omega) ?_) ?_) ?_) ?_) ?_
      · unfold ixR; omega
      · exact above_dueC _ _ (by omega) (by omega)
      · exact above_dueC _ _ (by omega) (by omega)
      · exact above_dueR _ _ (by unfold ixR; omega) (by omega)
      · exact above_dueR _ _ (by unfold ixR; omega) (by omega)
  refine this _ (by omega) ?_
  unfold ixR at hb ⊢
  omega
/-- A wait at an index below all that is owed may be made. -/
theorem mayWait_above {b : ℕ} {O : CellTallies nD τ sig ℕ} (h : Above b O) (hb : b < NL) (c : Dev nD) (s : SemLoc sig) :
    (levAts LL lv : sProp 𝕄) ⊢ MayWait (c : Thread nD τ) s b O :=
  SiteBlocks.mayWait_of hb c s O (fun g k hk => ⟨(h g k hk).2, (h g k hk).1⟩)

end Cert.KernelIdeal
-- ==== Proof.IdealSteps.lean ====
/-
  The steps of the ring kernel, each as a rule at a symbolic device c, ring δ, pass b and hop h:
  a transfer to the next device, the waits for its two ends, a credit given and waited for, the
  local copies of x, of w and of a finished column block. A program's own spelling of a memref,
  a semaphore or a device enters as an equation.
-/
module

public import proofs.«01_k».proof.Proof.IdealSched
public import Idealize.ShloMosaic.Lib.Pipeline.TalkSched

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

local notation "𝕄" => MT nD τ sig ℕ (Elt F) ℕ UU ℕ

variable (X : Dev nD → S8192x2048.Idx → Elt F .bf16) (W : Dev nD → S2048x4096.Idx → Elt F .bf16)

/-! ## What every device may use at any time -/

/-- A ring's scoped semaphores on a device: the credits', three at the sources, three at the targets, the local copies'. -/
def ownSem (p : Bool × Fin 10) : SemLoc sig :=
  (![.reg (sC p.1), .dma (sS p.1 0), .dma (sS p.1 1), .dma (sS p.1 2), .dma (sR p.1 0), .dma (sR p.1 1), .dma (sR p.1 2),
    .dma (sX p.1), .dma (sW p.1), .dma (sO p.1)] : Fin 10 → SemLoc sig) p.2
/-- Those that are cells: all but the local copies'. -/
def cellSem (p : Bool × Fin 7) : SemLoc sig := ownSem (p.1, p.2.castLE (by decide))
theorem cellSem_inj : Function.Injective cellSem := by decide

/-- The barrier's cells, and a device's cells of both rings, by device. -/
def barEmb : Dev nD ↪ GSem nD τ sig := ⟨fun c => cellB c, fun _ _ h => congrArg (fun g : GSem nD τ sig => g.1.1) h⟩
def scEmb : Dev nD × (Bool × Fin 7) ↪ GSem nD τ sig :=
  ⟨fun p => ((p.1 : Thread nD τ), cellSem p.2), fun _ _ h =>
    Prod.ext (congrArg (fun g : GSem nD τ sig => g.1.1) h) (cellSem_inj (congrArg Prod.snd h))⟩
/-- The cells in force from the start: the barriers'. -/
abbrev barCells : Finset (GSem nD τ sig) := Finset.univ.map barEmb
/-- The cells opened when the kernel starts: a device's two credit cells, six source cells, six target cells. -/
abbrev scCells : Finset (GSem nD τ sig) := Finset.univ.map scEmb
abbrev allCells : Finset (GSem nD τ sig) := barCells ∪ scCells

theorem mem_B (c : Dev nD) : cellB c ∈ allCells := Finset.mem_union_left _ (Finset.mem_map_of_mem barEmb (Finset.mem_univ c))
theorem mem_sc (c : Dev nD) (p : Bool × Fin 7) : ((c : Thread nD τ), cellSem p) ∈ allCells :=
  Finset.mem_union_right _ (Finset.mem_map_of_mem scEmb (Finset.mem_univ (c, p)))
theorem mem_C (δ : Bool) (c : Dev nD) : cellC δ c ∈ allCells := mem_sc c (δ, 0)
theorem mem_S (δ : Bool) (h : Fin 3) (c : Dev nD) : cellS δ h c ∈ allCells := by
  fin_cases h
  · exact mem_sc c (δ, 1)
  · exact mem_sc c (δ, 2)
  · exact mem_sc c (δ, 3)
theorem mem_R (δ : Bool) (h : Fin 3) (c : Dev nD) : cellR δ h c ∈ allCells := by
  fin_cases h
  · exact mem_sc c (δ, 4)
  · exact mem_sc c (δ, 5)
  · exact mem_sc c (δ, 6)

/-- Every cell's invariant and the levels. -/
def recs (κ : GSem nD τ sig → ℕ) : sProp 𝕄 :=
  iprop((bigSep allCells fun g => cellInv ER (Rd X W) (κ g) g) ∗ levAts LL lv)
instance recs_persistent (κ : GSem nD τ sig → ℕ) : BI.Persistent (recs X W κ) := by unfold recs; infer_instance

theorem recs_inv (κ : GSem nD τ sig → ℕ) {g : GSem nD τ sig} (hg : g ∈ allCells) : recs X W κ ⊢ cellInv ER (Rd X W) (κ g) g := by
  unfold recs
  exact sep_elim_left.trans (bigSep_elim hg (Φ := fun g => (cellInv ER (Rd X W) (κ g) g : sProp 𝕄)))
theorem recs_mayWait (κ : GSem nD τ sig → ℕ) {b : ℕ} {O : CellTallies nD τ sig ℕ} (h : Above b O) (hb : b < NL) (c : Dev nD) (s : SemLoc sig) :
    recs X W κ ⊢ MayWait (c : Thread nD τ) s b O := by
  unfold recs
  iintro ⟨-, H⟩
  iapply (mayWait_above h hb c s) $$ H

theorem hposX : 0 < S2048x2048.numel := by decide
theorem hposW : 0 < S2048x512.numel := by decide

/-! ## The holdings -/

/-- What device c owes, whatever it has waited for. -/
def owing (c : Dev nD) (O : CellTallies nD τ sig ℕ) : sProp 𝕄 := iprop(∃ Wd, owes (c : Thread nD τ) O Wd)
/-- The rights to pass b's transfer of hop h. -/
def hopTok (δ : Bool) (h : Fin 3) (c : Dev nD) (b : ℕ) : sProp 𝕄 :=
  iprop(dutyTok ER (cellS δ h c) b 0 ∗ dutyTok ER (cellR δ h (nxt δ c)) b 0)
/-- The source cell and the target cell at round r. -/
def posS (δ : Bool) (h : Fin 3) (c : Dev nD) (r : ℕ) : sProp 𝕄 :=
  iprop(atPos ER (cellS δ h c) r ∅ 0 ∗ reached ER (cellS δ h c) r)
def posR (δ : Bool) (h : Fin 3) (c : Dev nD) (r : ℕ) : sProp 𝕄 := atPos ER (cellR δ h c) r ∅ 0
/-- The credit cell before hop T: the credits of hops up to T - 4 consumed. -/
def posC (δ : Bool) (c : Dev nD) (T : ℕ) : sProp 𝕄 := iprop(∃ S, atPos ER (cellC δ c) 0 S (T - 3))

/-- The share of x and w a ring's copies read. -/
abbrev half (δ : Bool) : PosShare TreeShare := if δ then fullShare.left else fullShare.right
/-- The x buffer with block k of x's rows in it; free; being filled. -/
def xHas (δ : Bool) (c : Dev nD) (k : Fin 4) : sProp 𝕄 :=
  iprop((owns (c : Thread nD τ) xH (half δ) (X c) ∗ owns (c : Thread nD τ) (xB δ) fullShare (xrow (X c) k)) ∗ semVal ((c : Thread nD τ), .dma (sX δ)) 0)
def xFree (δ : Bool) (c : Dev nD) : sProp 𝕄 :=
  iprop(owns (c : Thread nD τ) xH (half δ) (X c) ∗ some_ (c : Thread nD τ) (xB δ) ∗ semVal ((c : Thread nD τ), .dma (sX δ)) 0)
def xMoves (δ : Bool) (c : Dev nD) (k : Fin 4) : sProp 𝕄 :=
  Moves EC (c : Thread nD τ) (.dma (sX δ)) 0 (xB δ).view.dmaCredit
    iprop(owns (c : Thread nD τ) xH (half δ) (X c) ∗ owns (c : Thread nD τ) (xB δ) fullShare (xrow (X c) k))
/-- The same for w and a block k of its columns. -/
def wHas (δ : Bool) (c : Dev nD) (k : Fin 8) : sProp 𝕄 :=
  iprop((owns (c : Thread nD τ) wH (half δ) (W c) ∗ owns (c : Thread nD τ) (wB δ) fullShare (wcol (W c) k)) ∗ semVal ((c : Thread nD τ), .dma (sW δ)) 0)
def wFree (δ : Bool) (c : Dev nD) : sProp 𝕄 :=
  iprop(owns (c : Thread nD τ) wH (half δ) (W c) ∗ some_ (c : Thread nD τ) (wB δ) ∗ semVal ((c : Thread nD τ), .dma (sW δ)) 0)
def wMoves (δ : Bool) (c : Dev nD) (k : Fin 8) : sProp 𝕄 :=
  Moves EC (c : Thread nD τ) (.dma (sW δ)) 0 (wB δ).view.dmaCredit
    iprop(owns (c : Thread nD τ) wH (half δ) (W c) ∗ owns (c : Thread nD τ) (wB δ) fullShare (wcol (W c) k))

theorem xHas_free (δ : Bool) (c : Dev nD) (k : Fin 4) : xHas X δ c k ⊢ xFree X δ c := by
  unfold xHas xFree
  iintro ⟨⟨Hx, Hb⟩, Hv⟩
  isplitl [Hx]; · iexact Hx
  isplitl [Hb]; · iapply some_intro; iexact Hb
  iexact Hv
theorem wHas_free (δ : Bool) (c : Dev nD) (k : Fin 8) : wHas W δ c k ⊢ wFree W δ c := by
  unfold wHas wFree
  iintro ⟨⟨Hx, Hb⟩, Hv⟩
  isplitl [Hx]; · iexact Hx
  isplitl [Hb]; · iapply some_intro; iexact Hb
  iexact Hv

/-- Column block k of the result. -/
abbrev oSlice (k : Fin 8) : Memref sig .tc .hbm S2048x512 .f32 := oH.slice (colR k) (fun _ => rfl)

/-! ## The rules -/

variable (κ : GSem nD τ sig → ℕ)
variable {defs : Defs nD τ sig (Elt F) Λ₀} (𝒱 : Variants) (c : Dev nD) (bd : Option 𝒱.V)
variable {α : Type} {Q : α → sProp (MT nD τ sig ℕ (Elt F) ℕ UU ℕ)}

/-- The transfer of pass b, hop h in ring δ. -/
theorem wp_hop (δ : Bool) (h : Fin 3) {b T : ℕ} (hb : b < 4) (hT : fin3 T = h)
    {src dst : Memref sig .tc .vmem S2048x512 .bf16} {s₁ s₂ : DmaSem sig} {n : Dev nD}
    (hn : n = nxt δ c) (hs : src = sbufQ δ (cur h)) (hd : dst = slotQ δ h) (h₁ : s₁ = sS δ h) (h₂ : s₂ = sR δ h)
    {hsc : dst.view.ref.isScScratch = false} {hsrc : src.view.WordExact} {hdst : dst.view.WordExact}
    {hsem : DmaTarget.Typed .vmem (.dma s₂) (.remote (Dev.tc n) dst (.dma s₁) hsc)}
    {k : PUnit → Prog (TpuEff nD τ sig (Elt F) Λ₀ .tc) α} (O : CellTallies nD τ sig ℕ) :
    iprop(recs X W κ ∗ owns (c : Thread nD τ) (sbuf δ (cur h)) fullShare (V X W δ b h.val c) ∗ slotAt δ h (nxt δ c) b ∗ extra δ b h c
        ∗ hopTok δ h c b ∗ reached ER (cellS δ h c) b ∗ owing c (O + dueR δ T c))
      ⊢ iprop(((cred (tallyAt (cellS δ h c) 0 N) ∗ owing c O) -∗ wp frame (wpE defs 𝒱 (c : Thread nD τ) bd) Set.univ (k ⟨⟩) Q)
          -∗ wp frame (wpE defs 𝒱 (c : Thread nD τ) bd) Set.univ
              (.op (.enqueueDma src (.remote (Dev.tc n) dst (.dma s₁) hsc) (.dma s₂) hsrc hdst hsem) k) Q) := by
  subst hn hs hd h₁ h₂ hT
  unfold owing hopTok slotAt some_ owns
  iintro ⟨#Hr, ⟨%f, %hf, Hs⟩, ⟨⟨%Y, %g, %hg, Hd⟩, #Hrd⟩, He, ⟨Ht1, Ht2⟩, #Hrs, ⟨%Wd, HO⟩⟩ Hk
  ihave #Hi1 := (recs_inv X W κ (mem_S δ (fin3 T) c)) $$ Hr
  ihave #Hi2 := (recs_inv X W κ (mem_R δ (fin3 T) (nxt δ c))) $$ Hr
  iapply (wp_send_pointsTo_with 𝒱 ER (Rd X W) (c : Thread nD τ) bd (c' := (nxt δ c : Thread nD τ))
      (src := sbufQ δ (cur (fin3 T))) (dst := slotQ δ (fin3 T)) (sS := .dma (sS δ (fin3 T))) (sem := .dma (sR δ (fin3 T)))
      (fs := f) (fd := g) (q := fullShare) (F := extra δ b (fin3 T) c) (r₁ := b) (r₂ := b) (d₁ := 0) (d₂ := 0)
      (κ₁ := κ (cellS δ (fin3 T) c)) (κ₂ := κ (cellR δ (fin3 T) (nxt δ c)))
      (by rw [duties_S X W δ _ c hb]; exact Finset.mem_singleton_self 0)
      (by rw [duties_R X W δ _ _ hb]; exact Finset.mem_singleton_self 0)
      (ixR T) 0 N (N_slot δ _) rfl rfl (O₀ := O + dueR δ T c) O rfl (W := Wd) ?_ ?_) $$ [Hs Hd He HO Ht1 Ht2]
  rotate_left 2
  · isplitr; · iexact Hi1
    isplitr; · iexact Hi2
    isplitl [Hs]
    · rw [show (sbufQ δ (cur (fin3 T))).view.set = (sbuf δ (cur (fin3 T))).view.set from View.set_reshape _ _]
      iexact Hs
    isplitl [Hd He]
    · isplitl [Hd]
      · rw [show (slotQ δ (fin3 T)).view.set = (slot δ (fin3 T)).view.set from View.set_reshape _ _]
        iexact Hd
      · iexact He
    isplitl [HO]; · iexact HO
    isplitl [Ht1]; · iexact Ht1
    isplitr; · iexact Hrs
    isplitl [Ht2]; · iexact Ht2
    iexact Hrd
  · iintro ⟨Hc, HO⟩
    iapply Hk
    isplitl [Hc]; · iexact Hc
    iexists Wd; iexact HO
  · rw [payload_S]
    unfold sendPay some_ owns
    iintro H
    iexists _, f
    isplitr; · ipureintro; rfl
    rw [show (sbufQ δ (cur (fin3 T))).view.set = (sbuf δ (cur (fin3 T))).view.set from View.set_reshape _ _]
    iexact H
  · rw [payload_R]
    unfold recvPay owns
    rw [nxt_nxt']
    iintro ⟨H, He⟩
    isplitr [He]; swap; · iexact He
    iexists _
    isplitr; swap
    · rw [show (slotQ δ (fin3 T)).view.set = (slot δ (fin3 T)).view.set from View.set_reshape _ _]
      iexact H
    ipureintro
    rw [← hf]
    exact read_write_squeeze (sbuf δ (cur (fin3 T))) (slot δ (fin3 T)) squeezes_S1x2048x512_S2048x512 g f

/-- The wait for the transfer's source end: the send buffer's slot comes back. -/
theorem wp_sent (δ : Bool) (h : Fin 3) {b : ℕ} (hb : b < 4) {s' : Shape} {e' : EltTy} {sp' : Space}
    {srcw : Memref sig .tc sp' s' e'} {dstw : Memref sig .tc .vmem S2048x512 .bf16} {s₁ : DmaSem sig}
    (h₁ : s₁ = sS δ h) (hd : dstw = sbufQ δ (cur h))
    {hsrc : srcw.view.WordExact} {hdst : dstw.view.WordExact}
    {k : PUnit → Prog (TpuEff nD τ sig (Elt F) Λ₀ .tc) α} {O : CellTallies nD τ sig ℕ} (hO : Above 0 O) :
    iprop(recs X W κ ∗ cred (tallyAt (cellS δ h c) 0 N) ∗ atPos ER (cellS δ h c) b ∅ 0 ∗ owing c O)
      ⊢ iprop(((some_ (c : Thread nD τ) (sbuf δ (cur h)) ∗ posS δ h c (b + 1) ∗ owing c O)
            -∗ wp frame (wpE defs 𝒱 (c : Thread nD τ) bd) Set.univ (k ⟨⟩) Q)
          -∗ wp frame (wpE defs 𝒱 (c : Thread nD τ) bd) Set.univ (.op (.waitDma2 s₁ srcw dstw hsrc hdst) k) Q) := by
  subst h₁
  have hN : dstw.view.dmaCredit = N := by rw [hd]
  unfold owing posS
  iintro ⟨#Hr, Hc, Hat, ⟨%Wd, HO⟩⟩ Hk
  ihave #Hi1 := (recs_inv X W κ (mem_S δ h c)) $$ Hr
  ihave Hmw := (recs_mayWait X W κ hO (by decide) c (.dma (sS δ h))) $$ Hr
  iapply (wp_wait_rest_token 𝒱 ER (Rd X W) (c : Thread nD τ) bd (κ := κ (cellS δ h c)) (sm := .dma (sS δ h)) (k' := dstw.view.dmaCredit)
      (wpE_waitDma2_eq 𝒱 (c : Thread nD τ) bd Set.univ) (Set.mem_univ _) 0 (O := O) (W := Wd) (R := b) (m := 0) (T := ∅)
      (by rw [hN, expect_S X W δ h c hb]; omega)) $$ [Hc Hat HO Hmw]
  · rw [hN]
    isplitr; · iexact Hi1
    isplitl [Hc]; · iexact Hc
    isplitl [HO]; · iexact HO
    isplitl [Hmw] <;> iassumption
  rw [duties_S X W δ h c hb, Finset.sdiff_empty, bigSep_singleton, payload_S]
  iintro ⟨HO, Hat, Hr', Hp⟩
  iapply Hk
  unfold sendPay
  isplitl [Hp]; · iexact Hp
  isplitl [Hat Hr']; · isplitl [Hat] <;> iassumption
  iexists _; iexact HO

/-- The wait for a transfer's landing: the slot, at what the device before sent, and what came along. -/
theorem wp_got (δ : Bool) (h : Fin 3) {b T : ℕ} (hb : b < 4) (hT : T = 3 * b + h.val) {s' : Shape} {e' : EltTy} {sp' : Space}
    {srcw : Memref sig .tc sp' s' e'} {dstw : Memref sig .tc .vmem S2048x512 .bf16} {s₁ : DmaSem sig}
    (h₁ : s₁ = sR δ h) (hd : dstw = slotQ δ h)
    {hsrc : srcw.view.WordExact} {hdst : dstw.view.WordExact}
    {k : PUnit → Prog (TpuEff nD τ sig (Elt F) Λ₀ .tc) α} {O : CellTallies nD τ sig ℕ} (hO : Above (ixR T) O) :
    iprop(recs X W κ ∗ cred (tallyAt (cellR δ h c) (ixR T) N) ∗ posR δ h c b ∗ owing c O)
      ⊢ iprop(((owns (c : Thread nD τ) (slot δ h) fullShare (V X W δ b h.val (nxt (!δ) c)) ∗ extra δ b h (nxt (!δ) c)
              ∗ posR δ h c (b + 1) ∗ reached ER (cellR δ h c) (b + 1) ∗ owing c O)
            -∗ wp frame (wpE defs 𝒱 (c : Thread nD τ) bd) Set.univ (k ⟨⟩) Q)
          -∗ wp frame (wpE defs 𝒱 (c : Thread nD τ) bd) Set.univ (.op (.waitDma2 s₁ srcw dstw hsrc hdst) k) Q) := by
  subst h₁
  have hN : dstw.view.dmaCredit = N := by rw [hd]
  unfold owing posR
  iintro ⟨#Hr, Hc, Hat, ⟨%Wd, HO⟩⟩ Hk
  ihave #Hi1 := (recs_inv X W κ (mem_R δ h c)) $$ Hr
  ihave Hmw := (recs_mayWait X W κ hO (show ixR T < 64 by unfold ixR; omega) c (.dma (sR δ h))) $$ Hr
  iapply (wp_wait_rest_token 𝒱 ER (Rd X W) (c : Thread nD τ) bd (κ := κ (cellR δ h c)) (sm := .dma (sR δ h)) (k' := dstw.view.dmaCredit)
      (wpE_waitDma2_eq 𝒱 (c : Thread nD τ) bd Set.univ) (Set.mem_univ _) (ixR T) (O := O) (W := Wd) (R := b) (m := 0) (T := ∅)
      (by rw [hN, expect_R X W δ h c hb]; omega)) $$ [Hc Hat HO Hmw]
  · rw [hN]
    isplitr; · iexact Hi1
    isplitl [Hc]; · iexact Hc
    isplitl [HO]; · iexact HO
    isplitl [Hmw] <;> iassumption
  rw [duties_R X W δ h c hb, Finset.sdiff_empty, bigSep_singleton, payload_R]
  iintro ⟨HO, Hat, Hr', Hp⟩
  iapply Hk
  unfold recvPay
  icases Hp with ⟨Hp, He⟩
  isplitl [Hp]; · iexact Hp
  isplitl [He]; · iexact He
  isplitl [Hat]; · iexact Hat
  isplitl [Hr']; · iexact Hr'
  iexists _; iexact HO

/-- A credit given in hop T to the device whose transfers ring δ brings. -/
theorem wp_give (δ : Bool) {T : ℕ} (hT : T < 12) {s : Sem sig} {t : Thread nD τ} {w : ℤ}
    (hs : s = sC δ) (ht : t = (nxt (!δ) c : Thread nD τ)) (hw : w = ((1 : ℕ) : ℤ))
    {k : PUnit → Prog (TpuEff nD τ sig (Elt F) Λ₀ .tc) α} (O : CellTallies nD τ sig ℕ) :
    iprop(recs X W κ ∗ dutyTok ER (cellC δ (nxt (!δ) c)) 0 T ∗ reached ER (cellC δ (nxt (!δ) c)) 0 ∗ owing c (O + dueC δ T c))
      ⊢ iprop((owing c O -∗ wp frame (wpE defs 𝒱 (c : Thread nD τ) bd) Set.univ (k ⟨⟩) Q)
          -∗ wp frame (wpE defs 𝒱 (c : Thread nD τ) bd) Set.univ (.op (.semSignal t s w) k) Q) := by
  subst hs ht hw
  unfold owing
  iintro ⟨#Hr, Ht, #Hrc, ⟨%Wd, HO⟩⟩ Hk
  ihave #Hi1 := (recs_inv X W κ (mem_C δ (nxt (!δ) c))) $$ Hr
  iapply (wp_signal 𝒱 ER (Rd X W) (c : Thread nD τ) bd (dst := (nxt (!δ) c : Thread nD τ)) (sem := sC δ) (r := 0) (d := T) (k' := 1)
      (κ := κ (cellC δ (nxt (!δ) c)))
      (by rw [show (Rd X W).duties ((nxt (!δ) c : Thread nD τ), .reg (sC δ)) 0 = Finset.range 12 from duties_C X W δ _]; exact Finset.mem_range.mpr hT)
      rfl (ixC T) (O₀ := O + dueC δ T c) O rfl (W := Wd)) $$ [Ht HO]
  · isplitr; · iexact Hi1
    isplitl [HO]; · iexact HO
    isplitl [Ht]; · iexact Ht
    isplitr
    · rw [show (Rd X W).payload ((nxt (!δ) c : Thread nD τ), .reg (sC δ)) 0 T = iprop(emp) from payload_C X W δ _ _ _]
      iempintro
    iexact Hrc
  iintro HO
  iapply Hk
  iexists Wd; iexact HO

/-- The wait for the credit of hop T - 3, before the transfer of hop T ≥ 3. -/
theorem wp_take (δ : Bool) {T : ℕ} (hT : 3 ≤ T) (hT' : T < 12) {s : Sem sig} {w : ℤ}
    (hs : s = sC δ) (hw : w = ((1 : ℕ) : ℤ))
    {k : PUnit → Prog (TpuEff nD τ sig (Elt F) Λ₀ .tc) α} {O : CellTallies nD τ sig ℕ} (hO : Above (ixC (T - 3)) O) :
    iprop(recs X W κ ∗ cred (tallyAt (cellC δ c) (ixC (T - 3)) 1) ∗ posC δ c T ∗ owing c O)
      ⊢ iprop(((posC δ c (T + 1) ∗ owing c O) -∗ wp frame (wpE defs 𝒱 (c : Thread nD τ) bd) Set.univ (k ⟨⟩) Q)
          -∗ wp frame (wpE defs 𝒱 (c : Thread nD τ) bd) Set.univ (.op (.semWait s w) k) Q) := by
  subst hs hw
  unfold owing posC
  iintro ⟨#Hr, Hc, ⟨%S, Hat⟩, ⟨%Wd, HO⟩⟩ Hk
  ihave #Hi1 := (recs_inv X W κ (mem_C δ c)) $$ Hr
  ihave Hmw := (recs_mayWait X W κ hO (show ixC (T - 3) < 64 by unfold ixC; split <;> omega) c (.reg (sC δ))) $$ Hr
  iapply (wp_wait 𝒱 ER (Rd X W) (c : Thread nD τ) bd (κ := κ (cellC δ c)) (sm := .reg (sC δ)) (k' := 1)
      (wpE_semWait_eq 𝒱 (c : Thread nD τ) bd Set.univ) (Set.mem_univ _) (cr := Finsupp.single (ixC (T - 3)) 1) (O := O) (W := Wd)
      {(SemLoc.reg (sC δ), ixC (T - 3))} (R := 0) (m := T - 3) (T := S)
      (Util.total_single _ _) (image_single_subset (.reg (sC δ)) (ixC (T - 3)) 1)) $$ [Hc Hat HO Hmw]
  · isplitr; · iexact Hi1
    isplitl [Hc]; · iexact Hc
    isplitl [HO]; · iexact HO
    isplitl [Hmw] <;> iassumption
  iintro %S' ⟨-, HO, Hat, -⟩
  iapply Hk
  isplitl [Hat]
  · iexists S'
    rw [show T + 1 - 3 = T - 3 + 1 by omega]
    iexact Hat
  iexists _; iexact HO

/-- The wait for the last three credits. -/
theorem wp_take_last (δ : Bool) {s : Sem sig} {w : ℤ} (hs : s = sC δ) (hw : w = ((3 : ℕ) : ℤ))
    {k : PUnit → Prog (TpuEff nD τ sig (Elt F) Λ₀ .tc) α} :
    iprop(recs X W κ ∗ cred (tallyAt (cellC δ c) 40 3) ∗ posC δ c 12 ∗ owing c 0)
      ⊢ iprop(((atPos ER (cellC δ c) 1 ∅ 0 ∗ owing c 0) -∗ wp frame (wpE defs 𝒱 (c : Thread nD τ) bd) Set.univ (k ⟨⟩) Q)
          -∗ wp frame (wpE defs 𝒱 (c : Thread nD τ) bd) Set.univ (.op (.semWait s w) k) Q) := by
  subst hs hw
  unfold owing posC
  iintro ⟨#Hr, Hc, ⟨%S, Hat⟩, ⟨%Wd, HO⟩⟩ Hk
  ihave #Hi1 := (recs_inv X W κ (mem_C δ c)) $$ Hr
  ihave Hmw := (recs_mayWait X W κ (above_zero 40) (by decide) c (.reg (sC δ))) $$ Hr
  iapply (wp_wait_rest_token 𝒱 ER (Rd X W) (c : Thread nD τ) bd (κ := κ (cellC δ c)) (sm := .reg (sC δ)) (k' := 3)
      (wpE_semWait_eq 𝒱 (c : Thread nD τ) bd Set.univ) (Set.mem_univ _) 40 (O := 0) (W := Wd) (R := 0) (m := 12 - 3) (T := S)
      (by rw [expect_C X W δ c])) $$ [Hc Hat HO Hmw]
  · isplitr; · iexact Hi1
    isplitl [Hc]; · iexact Hc
    isplitl [HO]; · iexact HO
    isplitl [Hmw] <;> iassumption
  iintro ⟨HO, Hat, -, -⟩
  iapply Hk
  isplitl [Hat]; · iexact Hat
  iexists _; iexact HO

/-- Begin the copy of a block of x's rows. -/
theorem wp_xgo (δ : Bool) (kk : Fin 4) {src : Memref sig .tc .hbm S2048x2048 .bf16} {dst : Memref sig .tc .vmem S2048x2048 .bf16} {s : DmaSem sig}
    {off : Fin 2 → ℕ} {inb : ∀ a, off a + S2048x2048.size a ≤ S8192x2048.size a}
    (hs : src = xH.slice (Rect.unit (s := S8192x2048) off S2048x2048.size inb) (fun _ => rfl)) (hoff : off = ![2048 * kk.val, 0])
    (hd : dst = xB δ) (hm : s = sX δ)
    {hsrc : src.view.WordExact} {hdst : dst.view.WordExact} {hsem : DmaTarget.Typed (nD := nD) (τ := τ) (p := .tc) .hbm (.dma s) (.here dst)}
    {k : PUnit → Prog (TpuEff nD τ sig (Elt F) Λ₀ .tc) α} :
    (xFree X δ c : sProp 𝕄)
      ⊢ iprop((xMoves X δ c kk -∗ wp frame (wpE defs 𝒱 (c : Thread nD τ) bd) Set.univ (k ⟨⟩) Q)
          -∗ wp frame (wpE defs 𝒱 (c : Thread nD τ) bd) Set.univ (.op (.enqueueDma src (.here dst) (.dma s) hsrc hdst hsem) k) Q) := by
  subst hs hoff hd hm
  unfold xFree xMoves
  exact wp_copy_in EC 𝒱 (c : Thread nD τ) bd (m := xH) (r := Rect.unit (s := S8192x2048) ![2048 * kk.val, 0] S2048x2048.size inb) (hr := fun _ => rfl)
    (q := half δ) (X := X c) (dst := xB δ) (sm := .dma (sX δ)) 0 (xB δ).view.dmaCredit rfl (View.dmaCredit_pos _ hposX)

/-- Wait for it. -/
theorem wp_xin (δ : Bool) (kk : Fin 4) {s' : Shape} {e' : EltTy} {sp' : Space} {srcw : Memref sig .tc sp' s' e'}
    {dst : Memref sig .tc .vmem S2048x2048 .bf16} {s : DmaSem sig} (hd : dst = xB δ) (hm : s = sX δ)
    {hsrc : srcw.view.WordExact} {hdst : dst.view.WordExact}
    {k : PUnit → Prog (TpuEff nD τ sig (Elt F) Λ₀ .tc) α} {O : CellTallies nD τ sig ℕ} (hO : Above 0 O) :
    iprop(recs X W κ ∗ xMoves X δ c kk ∗ owing c O)
      ⊢ iprop(((xHas X δ c kk ∗ owing c O) -∗ wp frame (wpE defs 𝒱 (c : Thread nD τ) bd) Set.univ (k ⟨⟩) Q)
          -∗ wp frame (wpE defs 𝒱 (c : Thread nD τ) bd) Set.univ (.op (.waitDma2 s srcw dst hsrc hdst) k) Q) := by
  subst hd hm
  unfold xMoves xHas owing
  iintro ⟨#Hr, Hm, HO⟩ Hk
  ihave Hmw := (recs_mayWait X W κ hO (by decide) c (.dma (sX δ))) $$ Hr
  iapply (wp_copy_wait EC 𝒱 (c : Thread nD τ) bd (dstw := xB δ) 0 rfl) $$ [Hm HO Hmw]
  · isplitl [Hm]; · iexact Hm
    isplitl [HO] <;> iassumption
  iintro ⟨Hp, Hv, HO⟩
  iapply Hk
  isplitl [Hp Hv]; · isplitl [Hp] <;> iassumption
  iexact HO

/-- Begin the copy of a block of w's columns. -/
theorem wp_wgo (δ : Bool) (kk : Fin 8) {src : Memref sig .tc .hbm S2048x512 .bf16} {dst : Memref sig .tc .vmem S2048x512 .bf16} {s : DmaSem sig}
    {off : Fin 2 → ℕ} {inb : ∀ a, off a + S2048x512.size a ≤ S2048x4096.size a}
    (hs : src = wH.slice (Rect.unit (s := S2048x4096) off S2048x512.size inb) (fun _ => rfl)) (hoff : off = ![0, 512 * kk.val])
    (hd : dst = wB δ) (hm : s = sW δ)
    {hsrc : src.view.WordExact} {hdst : dst.view.WordExact} {hsem : DmaTarget.Typed (nD := nD) (τ := τ) (p := .tc) .hbm (.dma s) (.here dst)}
    {k : PUnit → Prog (TpuEff nD τ sig (Elt F) Λ₀ .tc) α} :
    (wFree W δ c : sProp 𝕄)
      ⊢ iprop((wMoves W δ c kk -∗ wp frame (wpE defs 𝒱 (c : Thread nD τ) bd) Set.univ (k ⟨⟩) Q)
          -∗ wp frame (wpE defs 𝒱 (c : Thread nD τ) bd) Set.univ (.op (.enqueueDma src (.here dst) (.dma s) hsrc hdst hsem) k) Q) := by
  subst hs hoff hd hm
  unfold wFree wMoves
  exact wp_copy_in EC 𝒱 (c : Thread nD τ) bd (m := wH) (r := Rect.unit (s := S2048x4096) ![0, 512 * kk.val] S2048x512.size inb) (hr := fun _ => rfl)
    (q := half δ) (X := W c) (dst := wB δ) (sm := .dma (sW δ)) 0 (wB δ).view.dmaCredit rfl (View.dmaCredit_pos _ hposW)

/-- Wait for it. -/
theorem wp_win (δ : Bool) (kk : Fin 8) {s' : Shape} {e' : EltTy} {sp' : Space} {srcw : Memref sig .tc sp' s' e'}
    {dst : Memref sig .tc .vmem S2048x512 .bf16} {s : DmaSem sig} (hd : dst = wB δ) (hm : s = sW δ)
    {hsrc : srcw.view.WordExact} {hdst : dst.view.WordExact}
    {k : PUnit → Prog (TpuEff nD τ sig (Elt F) Λ₀ .tc) α} {O : CellTallies nD τ sig ℕ} (hO : Above 0 O) :
    iprop(recs X W κ ∗ wMoves W δ c kk ∗ owing c O)
      ⊢ iprop(((wHas W δ c kk ∗ owing c O) -∗ wp frame (wpE defs 𝒱 (c : Thread nD τ) bd) Set.univ (k ⟨⟩) Q)
          -∗ wp frame (wpE defs 𝒱 (c : Thread nD τ) bd) Set.univ (.op (.waitDma2 s srcw dst hsrc hdst) k) Q) := by
  subst hd hm
  unfold wMoves wHas owing
  iintro ⟨#Hr, Hm, HO⟩ Hk
  ihave Hmw := (recs_mayWait X W κ hO (by decide) c (.dma (sW δ))) $$ Hr
  iapply (wp_copy_wait EC 𝒱 (c : Thread nD τ) bd (dstw := wB δ) 0 rfl) $$ [Hm HO Hmw]
  · isplitl [Hm]; · iexact Hm
    isplitl [HO] <;> iassumption
  iintro ⟨Hp, Hv, HO⟩
  iapply Hk
  isplitl [Hp Hv]; · isplitl [Hp] <;> iassumption
  iexact HO

/-- A finished column block on its way out. -/
def oMoves (δ : Bool) (c : Dev nD) (kk : Fin 8) (v : S2048x512.Idx → Elt F .f32) : sProp 𝕄 :=
  Moves EC (c : Thread nD τ) (.dma (sO δ)) 0 (oSlice kk).view.dmaCredit
    iprop(owns (c : Thread nD τ) (oB δ) fullShare v ∗ owns (c : Thread nD τ) (oSlice kk) fullShare v)

/-- Begin the copy of a finished column block into the result. -/
theorem wp_ogo (δ : Bool) (kk : Fin 8) {v : S2048x512.Idx → Elt F .f32} {dst : Memref sig .tc .hbm S2048x512 .f32}
    {src : Memref sig .tc .vmem S2048x512 .f32} {s : DmaSem sig}
    {off : Fin 2 → ℕ} {inb : ∀ a, off a + S2048x512.size a ≤ S2048x4096.size a}
    (hd : dst = oH.slice (Rect.unit (s := S2048x4096) off S2048x512.size inb) (fun _ => rfl)) (hoff : off = ![0, 512 * kk.val])
    (hs : src = oB δ) (hm : s = sO δ)
    {hsrc : src.view.WordExact} {hdst : dst.view.WordExact} {hsem : DmaTarget.Typed (nD := nD) (τ := τ) (p := .tc) .vmem (.dma s) (.here dst)}
    {k : PUnit → Prog (TpuEff nD τ sig (Elt F) Λ₀ .tc) α} :
    iprop(owns (c : Thread nD τ) (oB δ) fullShare v ∗ some_ (c : Thread nD τ) (oSlice kk) ∗ semVal ((c : Thread nD τ), .dma (sO δ)) 0)
      ⊢ iprop((oMoves δ c kk v -∗ wp frame (wpE defs 𝒱 (c : Thread nD τ) bd) Set.univ (k ⟨⟩) Q)
          -∗ wp frame (wpE defs 𝒱 (c : Thread nD τ) bd) Set.univ (.op (.enqueueDma src (.here dst) (.dma s) hsrc hdst hsem) k) Q) := by
  subst hd hoff hs hm
  unfold oMoves
  exact wp_copy_out EC 𝒱 (c : Thread nD τ) bd (src := oB δ) (dst := oSlice kk) 0 _ rfl (View.dmaCredit_pos _ hposW)

/-- Wait for it. -/
theorem wp_oin (δ : Bool) (kk : Fin 8) {v : S2048x512.Idx → Elt F .f32} {s' : Shape} {e' : EltTy} {sp' : Space} {srcw : Memref sig .tc sp' s' e'}
    {dst : Memref sig .tc .hbm S2048x512 .f32} {s : DmaSem sig}
    {off : Fin 2 → ℕ} {inb : ∀ a, off a + S2048x512.size a ≤ S2048x4096.size a}
    (hd : dst = oH.slice (Rect.unit (s := S2048x4096) off S2048x512.size inb) (fun _ => rfl)) (hoff : off = ![0, 512 * kk.val])
    (hm : s = sO δ)
    {hsrc : srcw.view.WordExact} {hdst : dst.view.WordExact}
    {k : PUnit → Prog (TpuEff nD τ sig (Elt F) Λ₀ .tc) α} {O : CellTallies nD τ sig ℕ} (hO : Above 0 O) :
    iprop(recs X W κ ∗ oMoves δ c kk v ∗ owing c O)
      ⊢ iprop((((some_ (c : Thread nD τ) (oB δ) ∗ semVal ((c : Thread nD τ), .dma (sO δ)) 0)
              ∗ owns (c : Thread nD τ) (oSlice kk) fullShare v ∗ owing c O) -∗ wp frame (wpE defs 𝒱 (c : Thread nD τ) bd) Set.univ (k ⟨⟩) Q)
          -∗ wp frame (wpE defs 𝒱 (c : Thread nD τ) bd) Set.univ (.op (.waitDma2 s srcw dst hsrc hdst) k) Q) := by
  subst hd hoff hm
  unfold oMoves owing
  iintro ⟨#Hr, Hm, HO⟩ Hk
  ihave Hmw := (recs_mayWait X W κ hO (by decide) c (.dma (sO δ))) $$ Hr
  iapply (wp_copy_wait EC 𝒱 (c : Thread nD τ) bd (dstw := oSlice kk) 0 rfl) $$ [Hm HO Hmw]
  · isplitl [Hm]; · iexact Hm
    isplitl [HO] <;> iassumption
  iintro ⟨⟨Hp, Hs⟩, Hv, HO⟩
  iapply Hk
  isplitl [Hp Hv]
  · isplitl [Hp]; · iapply some_intro; iexact Hp
    iexact Hv
  isplitl [Hs] <;> iassumption

/-- The credit hop T waits for, in a pass after the first. -/
def credIn (δ : Bool) (c : Dev nD) (T : ℕ) : sProp 𝕄 := if T < 3 then iprop(emp) else cred (tallyAt (cellC δ c) (ixC (T - 3)) 1)

/-- The two credits before the transfers of hop T, waited for in every pass but the first. -/
theorem wp_credits {b T : ℕ} (hb : b < 4) (h : Fin 3) (hT : T = 3 * b + h.val) {v : BitVec 1} (hv : v = 1#1 ↔ 1 ≤ b)
    {s₁ s₂ : Sem sig} {w : ℤ} (h₁ : s₁ = sC true) (h₂ : s₂ = sC false) (hw : w = ((1 : ℕ) : ℤ))
    {β : Type} {p : Prog (TpuEff nD τ sig (Elt F) Λ₀ .tc) β} {k : β → Prog (TpuEff nD τ sig (Elt F) Λ₀ .tc) α} {O : CellTallies nD τ sig ℕ} (hO : 1 ≤ b → Above (ixC (T - 3)) O) :
    iprop(recs X W κ ∗ credIn true c T ∗ credIn false c T ∗ posC true c T ∗ posC false c T ∗ owing c O)
      ⊢ iprop(((posC true c (T + 1) ∗ posC false c (T + 1) ∗ owing c O) -∗ wp frame (wpE defs 𝒱 (c : Thread nD τ) bd) Set.univ (Prog.bind p k) Q)
          -∗ wp frame (wpE defs 𝒱 (c : Thread nD τ) bd) Set.univ
              (Prog.bind (if _h : v = 1#1 then .op (.semWait s₁ w) fun _ => .op (.semWait s₂ w) fun _ => p else p) k) Q) := by
  by_cases hc : v = 1#1
  · have hb1 := hv.mp hc
    rw [dif_pos hc]
    unfold credIn
    rw [if_neg (by omega), if_neg (by omega)]
    iintro ⟨#Hr, Hc1, Hc2, Hp1, Hp2, HO⟩ Hk
    iapply (wp_take X W κ 𝒱 c bd true (T := T) (by omega) (by omega) h₁ hw (hO hb1)) $$ [Hc1 Hp1 HO]
    · isplitr; · iexact Hr
      isplitl [Hc1]; · iexact Hc1
      isplitl [Hp1] <;> iassumption
    iintro ⟨Hp1, HO⟩
    iapply (wp_take X W κ 𝒱 c bd false (T := T) (by omega) (by omega) h₂ hw (hO hb1)) $$ [Hc2 Hp2 HO]
    · isplitr; · iexact Hr
      isplitl [Hc2]; · iexact Hc2
      isplitl [Hp2] <;> iassumption
    iintro ⟨Hp2, HO⟩
    iapply Hk
    isplitl [Hp1]; · iexact Hp1
    isplitl [Hp2] <;> iassumption
  · have hb0 : b = 0 := by
      by_contra h0
      exact hc (hv.mpr (by omega))
    rw [dif_neg hc]
    unfold posC
    rw [show T + 1 - 3 = 0 by omega, show T - 3 = 0 by omega]
    iintro ⟨#Hr, -, -, Hp1, Hp2, HO⟩ Hk
    iapply Hk
    isplitl [Hp1]; · iexact Hp1
    isplitl [Hp2] <;> iassumption

/-! ## Loads and stores -/

theorem z2 : (![0, 0] : Fin 2 → ℕ) = fun _ => 0 := by decide

/-- Load the block of x in its buffer. -/
theorem wp_lx (δ : Bool) {kk : Fin 4} {m : Memref sig .tc .vmem S2048x2048 .bf16} {off : Fin 2 → ℕ}
    {inb : ∀ a, off a + S2048x2048.size a ≤ S2048x2048.size a} (hm : m = xB δ) (ho : off = ![0, 0])
    {hl : m.view.LoadsAt (Rect.unit (s := S2048x2048) off S2048x2048.size inb).toLoadRect}
    {k : (S2048x2048.Idx → Elt F .bf16) → Prog (TpuEff nD τ sig (Elt F) Λ₀ .tc) α} :
    (xHas X δ c kk : sProp 𝕄)
      ⊢ iprop((xHas X δ c kk -∗ wp frame (wpE defs 𝒱 (c : Thread nD τ) bd) Set.univ (k (xrow (X c) kk)) Q)
          -∗ wp frame (wpE defs 𝒱 (c : Thread nD τ) bd) Set.univ
              (.op (.load m (Rect.unit (s := S2048x2048) off S2048x2048.size inb).toLoadRect hl) k) Q) := by
  subst hm ho
  unfold xHas
  iintro ⟨⟨Hx, Hb⟩, Hv⟩ Hk
  iapply (wp_load_all 𝒱 (c : Thread nD τ) bd z2) $$ Hb
  iintro Hb
  iapply Hk
  isplitr [Hv]
  · isplitl [Hx] <;> iassumption
  iexact Hv
/-- Load the block of w in its buffer. -/
theorem wp_lw (δ : Bool) {kk : Fin 8} {m : Memref sig .tc .vmem S2048x512 .bf16} {off : Fin 2 → ℕ}
    {inb : ∀ a, off a + S2048x512.size a ≤ S2048x512.size a} (hm : m = wB δ) (ho : off = ![0, 0])
    {hl : m.view.LoadsAt (Rect.unit (s := S2048x512) off S2048x512.size inb).toLoadRect}
    {k : (S2048x512.Idx → Elt F .bf16) → Prog (TpuEff nD τ sig (Elt F) Λ₀ .tc) α} :
    (wHas W δ c kk : sProp 𝕄)
      ⊢ iprop((wHas W δ c kk -∗ wp frame (wpE defs 𝒱 (c : Thread nD τ) bd) Set.univ (k (wcol (W c) kk)) Q)
          -∗ wp frame (wpE defs 𝒱 (c : Thread nD τ) bd) Set.univ
              (.op (.load m (Rect.unit (s := S2048x512) off S2048x512.size inb).toLoadRect hl) k) Q) := by
  subst hm ho
  unfold wHas
  iintro ⟨⟨Hx, Hb⟩, Hv⟩ Hk
  iapply (wp_load_all 𝒱 (c : Thread nD τ) bd z2) $$ Hb
  iintro Hb
  iapply Hk
  isplitr [Hv]
  · isplitl [Hx] <;> iassumption
  iexact Hv
/-- Load a receive slot. -/
theorem wp_lslot (δ : Bool) (h : Fin 3) {Y : S1x2048x512.Idx → Elt F .bf16} {m : Memref sig .tc .vmem S3x2048x512 .bf16} {off : Fin 3 → ℕ}
    {inb : ∀ a, off a + S1x2048x512.size a ≤ S3x2048x512.size a} (hm : m = recvB δ) (ho : off = ![h.val, 0, 0])
    {hl : m.view.LoadsAt (Rect.unit (s := S3x2048x512) off S1x2048x512.size inb).toLoadRect}
    {k : (S1x2048x512.Idx → Elt F .bf16) → Prog (TpuEff nD τ sig (Elt F) Λ₀ .tc) α} :
    (owns (c : Thread nD τ) (slot δ h) fullShare Y : sProp 𝕄)
      ⊢ iprop((owns (c : Thread nD τ) (slot δ h) fullShare Y -∗ wp frame (wpE defs 𝒱 (c : Thread nD τ) bd) Set.univ (k Y) Q)
          -∗ wp frame (wpE defs 𝒱 (c : Thread nD τ) bd) Set.univ
              (.op (.load m (Rect.unit (s := S3x2048x512) off S1x2048x512.size inb).toLoadRect hl) k) Q) := by
  subst hm ho
  exact wp_load_slice 𝒱 (c : Thread nD τ) bd (m := recvB δ) (fun _ => rfl)
/-- A load of a send slot whose value is not used. -/
theorem wp_dsbuf (δ : Bool) (j : Fin 2) {m : Memref sig .tc .vmem S2x2048x512 .bf16} {off : Fin 3 → ℕ}
    {inb : ∀ a, off a + S1x2048x512.size a ≤ S2x2048x512.size a} (hm : m = sendB δ) (ho : off = ![j.val, 0, 0])
    {hl : m.view.LoadsAt (Rect.unit (s := S2x2048x512) off S1x2048x512.size inb).toLoadRect}
    {p : Prog (TpuEff nD τ sig (Elt F) Λ₀ .tc) α} :
    (some_ (c : Thread nD τ) (sbuf δ j) : sProp 𝕄)
      ⊢ iprop((some_ (c : Thread nD τ) (sbuf δ j) -∗ wp frame (wpE defs 𝒱 (c : Thread nD τ) bd) Set.univ p Q)
          -∗ wp frame (wpE defs 𝒱 (c : Thread nD τ) bd) Set.univ
              (.op (.load m (Rect.unit (s := S2x2048x512) off S1x2048x512.size inb).toLoadRect hl) fun _ => p) Q) := by
  subst hm ho
  iintro H Hk
  unfold some_
  icases H with ⟨%Y, H⟩
  iapply (wp_load_slice 𝒱 (c : Thread nD τ) bd (m := sendB δ) (r := Rect.unit (s := S2x2048x512) ![j.val, 0, 0] S1x2048x512.size inb) (fun _ => rfl)) $$ H
  iintro H
  iapply Hk
  iexists Y; iexact H
/-- A store of a send slot. -/
theorem wp_ssbuf (δ : Bool) (j : Fin 2) {m : Memref sig .tc .vmem S2x2048x512 .bf16} {off : Fin 3 → ℕ}
    {inb : ∀ a, off a + S1x2048x512.size a ≤ S2x2048x512.size a} (hm : m = sendB δ) (ho : off = ![j.val, 0, 0])
    {w w' : S1x2048x512.Idx → Elt F .bf16} (hw : w = w')
    {hx : (m.access (Rect.unit (s := S2x2048x512) off S1x2048x512.size inb)).Stores Finset.univ}
    {hk : (Finset.univ : Finset S1x2048x512.Idx) = Finset.univ ∨ ∀ a, (Rect.unit (s := S2x2048x512) off S1x2048x512.size inb).stride a = 1}
    {k : PUnit → Prog (TpuEff nD τ sig (Elt F) Λ₀ .tc) α} :
    (some_ (c : Thread nD τ) (sbuf δ j) : sProp 𝕄)
      ⊢ iprop((owns (c : Thread nD τ) (sbuf δ j) fullShare w' -∗ wp frame (wpE defs 𝒱 (c : Thread nD τ) bd) Set.univ (k ⟨⟩) Q)
          -∗ wp frame (wpE defs 𝒱 (c : Thread nD τ) bd) Set.univ
              (.op (.store m (Rect.unit (s := S2x2048x512) off S1x2048x512.size inb) w Finset.univ hx hk) k) Q) := by
  subst hm ho hw
  exact wp_store_slice 𝒱 (c : Thread nD τ) bd (m := sendB δ) (r := Rect.unit (s := S2x2048x512) ![j.val, 0, 0] S1x2048x512.size inb) (fun _ => rfl)
/-- A load of a 2048x512 buffer of products. -/
theorem wp_lall {Y : S2048x512.Idx → Elt F .f32} {m : Memref sig .tc .vmem S2048x512 .f32} {off : Fin 2 → ℕ}
    {inb : ∀ a, off a + S2048x512.size a ≤ S2048x512.size a} (ho : off = ![0, 0])
    {hl : m.view.LoadsAt (Rect.unit (s := S2048x512) off S2048x512.size inb).toLoadRect}
    {k : (S2048x512.Idx → Elt F .f32) → Prog (TpuEff nD τ sig (Elt F) Λ₀ .tc) α} :
    (owns (c : Thread nD τ) m fullShare Y : sProp 𝕄)
      ⊢ iprop((owns (c : Thread nD τ) m fullShare Y -∗ wp frame (wpE defs 𝒱 (c : Thread nD τ) bd) Set.univ (k Y) Q)
          -∗ wp frame (wpE defs 𝒱 (c : Thread nD τ) bd) Set.univ
              (.op (.load m (Rect.unit (s := S2048x512) off S2048x512.size inb).toLoadRect hl) k) Q) := by
  subst ho
  exact wp_load_all 𝒱 (c : Thread nD τ) bd z2
/-- The same where the value is not used. -/
theorem wp_dall {m : Memref sig .tc .vmem S2048x512 .f32} {off : Fin 2 → ℕ}
    {inb : ∀ a, off a + S2048x512.size a ≤ S2048x512.size a} (ho : off = ![0, 0])
    {hl : m.view.LoadsAt (Rect.unit (s := S2048x512) off S2048x512.size inb).toLoadRect}
    {p : Prog (TpuEff nD τ sig (Elt F) Λ₀ .tc) α} :
    (some_ (c : Thread nD τ) m : sProp 𝕄)
      ⊢ iprop((some_ (c : Thread nD τ) m -∗ wp frame (wpE defs 𝒱 (c : Thread nD τ) bd) Set.univ p Q)
          -∗ wp frame (wpE defs 𝒱 (c : Thread nD τ) bd) Set.univ
              (.op (.load m (Rect.unit (s := S2048x512) off S2048x512.size inb).toLoadRect hl) fun _ => p) Q) := by
  subst ho
  iintro H Hk
  unfold some_
  icases H with ⟨%Y, H⟩
  iapply (wp_load_all 𝒱 (c : Thread nD τ) bd z2) $$ H
  iintro H
  iapply Hk
  iexists Y; iexact H
/-- A store of such a buffer. -/
theorem wp_sall {m : Memref sig .tc .vmem S2048x512 .f32} {off : Fin 2 → ℕ}
    {inb : ∀ a, off a + S2048x512.size a ≤ S2048x512.size a} (ho : off = ![0, 0])
    {w w' : S2048x512.Idx → Elt F .f32} (hw : w = w')
    {hx : (m.access (Rect.unit (s := S2048x512) off S2048x512.size inb)).Stores Finset.univ}
    {hk : (Finset.univ : Finset S2048x512.Idx) = Finset.univ ∨ ∀ a, (Rect.unit (s := S2048x512) off S2048x512.size inb).stride a = 1}
    {k : PUnit → Prog (TpuEff nD τ sig (Elt F) Λ₀ .tc) α} :
    (some_ (c : Thread nD τ) m : sProp 𝕄)
      ⊢ iprop((owns (c : Thread nD τ) m fullShare w' -∗ wp frame (wpE defs 𝒱 (c : Thread nD τ) bd) Set.univ (k ⟨⟩) Q)
          -∗ wp frame (wpE defs 𝒱 (c : Thread nD τ) bd) Set.univ
              (.op (.store m (Rect.unit (s := S2048x512) off S2048x512.size inb) w Finset.univ hx hk) k) Q) := by
  subst ho hw
  exact wp_store_all 𝒱 (c : Thread nD τ) bd z2

end Cert.KernelIdeal
-- ==== Proof.IdealParts.lean ====
/-
  The parts of one trip of the ring kernel's loop, each as a rule: what a part takes and what it leaves, at a symbolic device c
  and trip t. Values are what the schedule's module names V and outV.
-/
module

public import proofs.«01_k».proof.Proof.IdealSteps

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

local notation "𝕄" => MT nD τ sig ℕ (Elt F) ℕ UU ℕ

variable (X : Dev nD → S8192x2048.Idx → Elt F .bf16) (W : Dev nD → S2048x4096.Idx → Elt F .bf16)

/-- A piece of the kernel at the call's own buffers and semaphores. -/
abbrev onBufs {β : Type 1} (f : (arg0 : Memref sig .tc .hbm S8192x2048 .bf16) → arg0.IsWhole → (arg1 : Memref sig .tc .hbm S2048x4096 .bf16) → arg1.IsWhole → (arg2 : Memref sig .tc .hbm S2048x4096 .f32) → arg2.IsWhole → (arg3 : Memref sig .tc .vmem S3x2048x512 .bf16) → arg3.IsWhole → (arg4 : Memref sig .tc .vmem S3x2048x512 .bf16) → arg4.IsWhole → (arg5 : Memref sig .tc .vmem S2x2048x512 .bf16) → arg5.IsWhole → (arg6 : Memref sig .tc .vmem S2x2048x512 .bf16) → arg6.IsWhole → (arg7 : Memref sig .tc .vmem S2048x2048 .bf16) → arg7.IsWhole → (arg8 : Memref sig .tc .vmem S2048x2048 .bf16) → arg8.IsWhole → (arg9 : Memref sig .tc .vmem S2048x512 .bf16) → arg9.IsWhole → (arg10 : Memref sig .tc .vmem S2048x512 .bf16) → arg10.IsWhole → (arg11 : Memref sig .tc .vmem S2048x512 .f32) → arg11.IsWhole → (arg12 : Memref sig .tc .vmem S2048x512 .f32) → arg12.IsWhole → (arg13 : Memref sig .tc .vmem S2048x512 .f32) → arg13.IsWhole → (arg14 : Memref sig .tc .vmem S2048x512 .f32) → arg14.IsWhole → (arg15 : DmaSems sig S3) → (arg16 : DmaSems sig S3) → (arg17 : DmaSems sig S3) → (arg18 : DmaSems sig S3) → (arg19 : DmaSems sig S_) → (arg20 : DmaSems sig S_) → (arg21 : DmaSems sig S_) → (arg22 : DmaSems sig S_) → (arg23 : DmaSems sig S_) → (arg24 : DmaSems sig S_) → (arg25 : Sems sig S_) → (arg26 : Sems sig S_) → β) : β :=
  f (Memref.whole main_v1) (Memref.isWhole_whole _) (Memref.whole main_v2) (Memref.isWhole_whole _) (Memref.whole main_v3) (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) (Memref.whole cc2_scratch8) (Memref.isWhole_whole _) (Memref.whole cc2_scratch9) (Memref.isWhole_whole _) (Memref.whole cc2_scratch10) (Memref.isWhole_whole _) (Memref.whole cc2_scratch11) (Memref.isWhole_whole _) cc2_scratch12 cc2_scratch13 cc2_scratch14 cc2_scratch15 cc2_scratch16 cc2_scratch17 cc2_scratch18 cc2_scratch19 cc2_scratch20 cc2_scratch21 cc2_scratch22 cc2_scratch23

/-! ## Where the copies read and write, and whom the transfers and credits address -/

theorem off1_at (t : Fin k2_t1_loop.trips) : k2_off1 t = ![0, 512 * (colk true t.val).val] := by revert t; decide
theorem off2_at (t : Fin k2_t1_loop.trips) : k2_off2 t = ![0, 512 * (colk false t.val).val] := by revert t; decide
theorem off3_at (c : Dev nD) : k2_off3 c = ![2048 * (xk true c 0).val, 0] := by revert c; decide
theorem off4_at (c : Dev nD) : k2_off4 c = ![2048 * (xk false c 0).val, 0] := by revert c; decide
theorem off5_at (c : Dev nD) (r : Fin 3) : k2_off5 c (BitVec.ofNat 32 r.val) = ![2048 * (xk true c (r.val + 1)).val, 0] := by
  revert c r; decide
theorem off6_at (c : Dev nD) (r : Fin 3) : k2_off6 c (BitVec.ofNat 32 r.val) = ![2048 * (xk false c (r.val + 1)).val, 0] := by
  revert c r; decide
theorem trip_lt (t : Fin k2_t1_loop.trips) : t.val < 4 := t.isLt

variable (κ : GSem nD τ sig → ℕ)
variable {defs : Defs nD τ sig (Elt F) Λ₀} (𝒱 : Variants) (c : Dev nD) (bd : Option 𝒱.V)
variable {α : Type} {Q : α → sProp (MT nD τ sig ℕ (Elt F) ℕ UU ℕ)}

theorem pass_iff (t : Fin k2_t1_loop.trips) :
    Scalar.cmpi .ne (Scalar.extui (Scalar.cmpi .sge (Scf.iv 0#32 1#32 t) 1#32) : BitVec 32) 0#32 = 1#1 ↔ 1 ≤ t.val := by revert t; decide
theorem left_at (c : Dev nD) {n : ℕ} (hn : n < nD) (h : n = (c.val + 3) % 4) : (⟨n, hn⟩ : Dev nD) = nxt false c := by subst h; rfl
theorem right_at (c : Dev nD) {n : ℕ} (hn : n < nD) (h : n = (c.val + 1) % 4) : (⟨n, hn⟩ : Dev nD) = nxt true c := by subst h; rfl
theorem left_tc (c : Dev nD) {n : ℕ} (hn : n < nD) (h : n = (c.val + 3) % 4) :
    ((⟨n, hn⟩ : Dev nD) : Thread nD τ) = (nxt (!true) c : Thread nD τ) := congrArg _ (left_at c hn h)
theorem right_tc (c : Dev nD) {n : ℕ} (hn : n < nD) (h : n = (c.val + 1) % 4) :
    ((⟨n, hn⟩ : Dev nD) : Thread nD τ) = (nxt (!false) c : Thread nD τ) := congrArg _ (right_at c hn h)
theorem one_word : (1#32).toInt = ((1 : ℕ) : ℤ) := by decide

/-- The product device c adds in hop h ≥ 1. -/
abbrev G (δ : Bool) (b h : ℕ) (c : Dev nD) : S2048x512.Idx → Elt F .f32 := k2_pay5 (xrow (X c) (xk δ c h)) (wcol (W c) (colk δ b))
/-- What is owed in hop T once its two transfers are under way; and what is taken for a landing of hop T. -/
abbrev owedC (T : ℕ) (c : Dev nD) : CellTallies nD τ sig ℕ := dues (T + 1) c + dueC false T c + dueC true T c
abbrev landing (δ : Bool) (h : Fin 3) (c : Dev nD) (b T : ℕ) : sProp 𝕄 :=
  iprop(cred (tallyAt (cellR δ h c) (ixR T) N) ∗ posR δ h c b)
/-- A landed slot, the slot that came along, and the cell's next round. -/
abbrev landed (δ : Bool) (h : Fin 3) (c : Dev nD) (b : ℕ) : sProp 𝕄 :=
  iprop(owns (c : Thread nD τ) (slot δ h) fullShare (V X W δ b h.val (nxt (!δ) c)) ∗ extra δ b h (nxt (!δ) c)
    ∗ posR δ h c (b + 1) ∗ reached ER (cellR δ h c) (b + 1))
/-- A transfer to make; one under way; one whose source end is done. -/
abbrev toSend (δ : Bool) (h : Fin 3) (c : Dev nD) (b : ℕ) : sProp 𝕄 :=
  iprop(slotAt δ h (nxt δ c) b ∗ extra δ b h c ∗ hopTok δ h c b ∗ reached ER (cellS δ h c) b)
abbrev sending (δ : Bool) (h : Fin 3) (c : Dev nD) (b : ℕ) : sProp 𝕄 :=
  iprop(cred (tallyAt (cellS δ h c) 0 N) ∗ atPos ER (cellS δ h c) b ∅ 0)
abbrev sent (δ : Bool) (h : Fin 3) (c : Dev nD) (b : ℕ) : sProp 𝕄 :=
  iprop(some_ (c : Thread nD τ) (sbuf δ (cur h)) ∗ posS δ h c (b + 1))
/-- A credit to give in hop T. -/
abbrev toGive (δ : Bool) (T : ℕ) (c : Dev nD) : sProp 𝕄 :=
  iprop(dutyTok ER (cellC δ (nxt (!δ) c)) 0 T ∗ reached ER (cellC δ (nxt (!δ) c)) 0)

theorem above_owedC {b T : ℕ} (hT : T < 12) (hb : b < 3 + 2 * T) (c : Dev nD) : Above b (owedC T c) :=
  above_add (above_add (above_dues c (by omega) (by unfold ixR; omega)) (above_dueC _ c hb hT)) (above_dueC _ c hb hT)

/-- A value handed on. -/
theorem ret_bind {E : Type → Type} {α β : Type} (a : α) (k : α → Prog E β) : Prog.bind (.ret a) k = k a := rfl

theorem part1 (t : Fin k2_t1_loop.trips) {v2 : BitVec 32}
    {k : (Σ' (_ : BitVec 32), FVec F S1x2048x512 .bf16) → Prog (TpuEff nD τ sig (Elt F) Λ₀ .tc) α} {O : CellTallies nD τ sig ℕ} (hO : Above 0 O) :
    iprop(recs X W κ ∗ owing c O ∗ xFree X true c ∗ xFree X false c ∗ wFree W true c ∗ wFree W false c ∗ some_ (c : Thread nD τ) (sbuf true 0))
      ⊢ iprop(((owing c O ∗ xHas X true c (xk true c 0) ∗ xHas X false c (xk false c 0) ∗ wHas W true c (colk true t.val)
              ∗ wHas W false c (colk false t.val) ∗ some_ (c : Thread nD τ) (sbuf true 0))
            -∗ wp frame (wpE defs 𝒱 (c : Thread nD τ) bd) Set.univ (k ⟨Scf.iv 0#32 1#32 t, V X W true t.val 0 c⟩) Q)
          -∗ wp frame (wpE defs 𝒱 (c : Thread nD τ) bd) Set.univ (Prog.bind (onBufs (k2_part1 (F := F)) c v2 0#32 1#32 t) k) Q) := by
  unfold onBufs
  simp only [k2_part1_eq_skeleton]
  unfold k2_part1_skel
  simp only [semSignalWord, semWaitWord, Prog.lift, Prog.bind_op, Prog.bind_ret, Prog.pure_eq_ret, Prog.bind_assoc]
  iintro ⟨#Hr, HO, Hx1, Hx2, Hw1, Hw2, Hs⟩ Hk
  iapply (wp_wgo W 𝒱 c bd true (colk true t.val) rfl (off1_at t) rfl rfl) $$ Hw1
  iintro Hw1
  iapply (wp_wgo W 𝒱 c bd false (colk false t.val) rfl (off2_at t) rfl rfl) $$ Hw2
  iintro Hw2
  iapply (wp_xgo X 𝒱 c bd true (xk true c 0) rfl (off3_at c) rfl rfl) $$ Hx1
  iintro Hx1
  iapply (wp_xgo X 𝒱 c bd false (xk false c 0) rfl (off4_at c) rfl rfl) $$ Hx2
  iintro Hx2
  iapply (wp_win X W κ 𝒱 c bd true (colk true t.val) rfl rfl hO) $$ [Hw1 HO]
  · isplitr; · iexact Hr
    isplitl [Hw1] <;> iassumption
  iintro ⟨Hw1, HO⟩
  iapply (wp_win X W κ 𝒱 c bd false (colk false t.val) rfl rfl hO) $$ [Hw2 HO]
  · isplitr; · iexact Hr
    isplitl [Hw2] <;> iassumption
  iintro ⟨Hw2, HO⟩
  iapply (wp_xin X W κ 𝒱 c bd true (xk true c 0) rfl rfl hO) $$ [Hx1 HO]
  · isplitr; · iexact Hr
    isplitl [Hx1] <;> iassumption
  iintro ⟨Hx1, HO⟩
  iapply (wp_xin X W κ 𝒱 c bd false (xk false c 0) rfl rfl hO) $$ [Hx2 HO]
  · isplitr; · iexact Hr
    isplitl [Hx2] <;> iassumption
  iintro ⟨Hx2, HO⟩
  iapply (wp_lx X 𝒱 c bd true rfl rfl) $$ Hx1
  iintro Hx1
  iapply (wp_lw W 𝒱 c bd true rfl rfl) $$ Hw1
  iintro Hw1
  iapply (wp_dsbuf 𝒱 c bd true 0 rfl rfl) $$ Hs
  iintro Hs
  simp only [ret_bind]
  iapply Hk
  isplitl [HO]; · iexact HO
  isplitl [Hx1]; · iexact Hx1
  isplitl [Hx2]; · iexact Hx2
  isplitl [Hw1]; · iexact Hw1
  isplitl [Hw2] <;> iassumption

theorem part2 (t : Fin k2_t1_loop.trips) {v2 v7 : BitVec 32}
    {k : (Σ' (_ : BitVec 32), BitVec 32) → Prog (TpuEff nD τ sig (Elt F) Λ₀ .tc) α} :
    iprop(recs X W κ ∗ (some_ (c : Thread nD τ) (sbuf true 0) ∗ some_ (c : Thread nD τ) (sbuf false 0))
        ∗ (xHas X false c (xk false c 0) ∗ wHas W false c (colk false t.val))
        ∗ toSend true 0 c t.val
        ∗ (credIn true c (3 * t.val) ∗ credIn false c (3 * t.val) ∗ posC true c (3 * t.val) ∗ posC false c (3 * t.val)) ∗ owing c (dues (3 * t.val) c))
      ⊢ iprop((∀ r, ((owns (c : Thread nD τ) (sbuf false 0) fullShare (V X W false t.val 0 c)
              ∗ (xHas X false c (xk false c 0) ∗ wHas W false c (colk false t.val))
              ∗ cred (tallyAt (cellS true 0 c) 0 N) ∗ (posC true c (3 * t.val + 1) ∗ posC false c (3 * t.val + 1))
              ∗ owing c (owedC (3 * t.val) c + dueR false (3 * t.val) c))
            -∗ wp frame (wpE defs 𝒱 (c : Thread nD τ) bd) Set.univ (k r) Q))
          -∗ wp frame (wpE defs 𝒱 (c : Thread nD τ) bd) Set.univ
              (Prog.bind (onBufs (k2_part2 (F := F)) c v2 v7 (Scf.iv 0#32 1#32 t) (V X W true t.val 0 c)) k) Q) := by
  have ht := trip_lt t
  unfold onBufs
  simp only [k2_part2_eq_skeleton]
  unfold k2_part2_skel
  simp only [semSignalWord, semWaitWord, Prog.lift, Prog.bind_op, Prog.bind_ret, Prog.pure_eq_ret, Prog.bind_assoc]
  iintro ⟨#Hr, ⟨Hs1, Hs2⟩, ⟨Hx2, Hw2⟩, ⟨Hsl, He, Htk, Hrs⟩, ⟨Hc1, Hc2, Hp1, Hp2⟩, HO⟩ Hk
  iapply (wp_ssbuf 𝒱 c bd true 0 rfl rfl rfl) $$ Hs1
  iintro Hs1
  iapply (wp_lx X 𝒱 c bd false rfl rfl) $$ Hx2
  iintro Hx2
  iapply (wp_lw W 𝒱 c bd false rfl rfl) $$ Hw2
  iintro Hw2
  iapply (wp_dsbuf 𝒱 c bd false 0 rfl rfl) $$ Hs2
  iintro Hs2
  iapply (wp_ssbuf 𝒱 c bd false 0 rfl rfl (w' := V X W false t.val 0 c) rfl) $$ Hs2
  iintro Hs2
  iapply (wp_credits X W κ 𝒱 c bd (T := 3 * t.val) ht 0 rfl (pass_iff t) rfl rfl one_word
    (O := dues (3 * t.val) c) (fun h1 => above_dues c (by omega) (by unfold ixC ixR; split <;> omega))) $$ [Hc1 Hc2 Hp1 Hp2 HO]
  · isplitr; · iexact Hr
    isplitl [Hc1]; · iexact Hc1
    isplitl [Hc2]; · iexact Hc2
    isplitl [Hp1]; · iexact Hp1
    isplitl [Hp2]; · iexact Hp2
    iexact HO
  iintro ⟨Hp1, Hp2, HO⟩
  rw [dues_step (show 3 * t.val < 12 by omega)]
  iapply (wp_hop X W κ 𝒱 c bd true 0 (T := 3 * t.val) ht (Fin.ext (by show 3 * t.val % 3 = 0; omega)) (right_at c _ (k2_dev3_eq c)) rfl rfl rfl rfl
    (owedC (3 * t.val) c + dueR false (3 * t.val) c)) $$ [Hs1 Hsl He Htk Hrs HO]
  · isplitr; · iexact Hr
    isplitl [Hs1]; · iexact Hs1
    isplitl [Hsl]; · iexact Hsl
    isplitl [He]; · iexact He
    isplitl [Htk]; · iexact Htk
    isplitl [Hrs] <;> iassumption
  iintro ⟨Hcr, HO⟩
  simp only [ret_bind]
  iapply Hk
  isplitl [Hs2]; · iexact Hs2
  isplitl [Hx2 Hw2]; · isplitl [Hx2] <;> iassumption
  isplitl [Hcr]; · iexact Hcr
  isplitl [Hp1 Hp2]; · isplitl [Hp1] <;> iassumption
  iexact HO

theorem part3 (t : Fin k2_t1_loop.trips) {v5 v49 v52 : BitVec 32}
    {k : (Σ' (_ : FVec F S2048x512 .f32), Vec F S2048x512 .f32) → Prog (TpuEff nD τ sig (Elt F) Λ₀ .tc) α} :
    iprop(recs X W κ ∗ owns (c : Thread nD τ) (sbuf false 0) fullShare (V X W false t.val 0 c) ∗ toSend false 0 c t.val
        ∗ owing c (owedC (3 * t.val) c + dueR false (3 * t.val) c)
        ∗ (xFree X true c ∗ xFree X false c ∗ wHas W true c (colk true t.val) ∗ wHas W false c (colk false t.val))
        ∗ some_ (c : Thread nD τ) (gB true) ∗ some_ (c : Thread nD τ) (gB false))
      ⊢ iprop((∀ r, ((cred (tallyAt (cellS false 0 c) 0 N) ∗ owing c (owedC (3 * t.val) c)
              ∗ (xHas X true c (xk true c 1) ∗ xHas X false c (xk false c 1) ∗ wHas W true c (colk true t.val) ∗ wHas W false c (colk false t.val))
              ∗ owns (c : Thread nD τ) (gB true) fullShare (G X W true t.val 1 c) ∗ some_ (c : Thread nD τ) (gB false))
            -∗ wp frame (wpE defs 𝒱 (c : Thread nD τ) bd) Set.univ
                (k ⟨k2_pay6 (xrow (X c) (xk false c 1)) (wcol (W c) (colk false t.val)), r⟩) Q))
          -∗ wp frame (wpE defs 𝒱 (c : Thread nD τ) bd) Set.univ (Prog.bind (onBufs (k2_part3 (F := F)) c v5 v49 v52) k) Q) := by
  have ht := trip_lt t
  have hO : Above 0 (owedC (3 * t.val) c) := above_owedC (by omega) (by omega) c
  unfold onBufs
  simp only [k2_part3_eq_skeleton]
  unfold k2_part3_skel
  simp only [semSignalWord, semWaitWord, Prog.lift, Prog.bind_op, Prog.bind_ret, Prog.pure_eq_ret, Prog.bind_assoc]
  iintro ⟨#Hr, Hs, ⟨Hsl, He, Htk, Hrs⟩, HO, ⟨Hx1, Hx2, Hw1, Hw2⟩, Hg1, Hg2⟩ Hk
  iapply (wp_hop X W κ 𝒱 c bd false 0 (T := 3 * t.val) ht (Fin.ext (by show 3 * t.val % 3 = 0; omega)) (left_at c _ (k2_dev4_eq c)) rfl rfl rfl rfl
    (owedC (3 * t.val) c)) $$ [Hs Hsl He Htk Hrs HO]
  · isplitr; · iexact Hr
    isplitl [Hs]; · iexact Hs
    isplitl [Hsl]; · iexact Hsl
    isplitl [He]; · iexact He
    isplitl [Htk]; · iexact Htk
    isplitl [Hrs] <;> iassumption
  iintro ⟨Hcr, HO⟩
  iapply (wp_xgo X 𝒱 c bd true (xk true c 1) rfl (off5_at c 0) rfl rfl) $$ Hx1
  iintro Hx1
  iapply (wp_xgo X 𝒱 c bd false (xk false c 1) rfl (off6_at c 0) rfl rfl) $$ Hx2
  iintro Hx2
  iapply (wp_xin X W κ 𝒱 c bd true (xk true c 1) rfl rfl hO) $$ [Hx1 HO]
  · isplitr; · iexact Hr
    isplitl [Hx1] <;> iassumption
  iintro ⟨Hx1, HO⟩
  iapply (wp_xin X W κ 𝒱 c bd false (xk false c 1) rfl rfl hO) $$ [Hx2 HO]
  · isplitr; · iexact Hr
    isplitl [Hx2] <;> iassumption
  iintro ⟨Hx2, HO⟩
  iapply (wp_lx X 𝒱 c bd true rfl rfl) $$ Hx1
  iintro Hx1
  iapply (wp_lw W 𝒱 c bd true rfl rfl) $$ Hw1
  iintro Hw1
  iapply (wp_dall 𝒱 c bd (m := gB true) rfl) $$ Hg1
  iintro Hg1
  iapply (wp_sall 𝒱 c bd (m := gB true) rfl (w' := G X W true t.val 1 c) rfl) $$ Hg1
  iintro Hg1
  iapply (wp_lx X 𝒱 c bd false rfl rfl) $$ Hx2
  iintro Hx2
  iapply (wp_lw W 𝒱 c bd false rfl rfl) $$ Hw2
  iintro Hw2
  unfold some_
  icases Hg2 with ⟨%Y, Hg2⟩
  iapply (wp_lall 𝒱 c bd (m := gB false) (Y := Y) rfl) $$ Hg2
  iintro Hg2
  simp only [ret_bind]
  iapply Hk
  isplitl [Hcr]; · iexact Hcr
  isplitl [HO]; · iexact HO
  isplitl [Hx1 Hx2 Hw1 Hw2]
  · isplitl [Hx1]; · iexact Hx1
    isplitl [Hx2]; · iexact Hx2
    isplitl [Hw1] <;> iassumption
  isplitl [Hg1]; · iexact Hg1
  iexists Y; iexact Hg2

theorem part4 (t : Fin k2_t1_loop.trips) {v5 v7 : BitVec 32} {v91 : Vec F S2048x512 .f32}
    {k : BitVec 32 → Prog (TpuEff nD τ sig (Elt F) Λ₀ .tc) α} :
    iprop(recs X W κ ∗ some_ (c : Thread nD τ) (gB false) ∗ sending true 0 c t.val ∗ sending false 0 c t.val
        ∗ landing true 0 c t.val (3 * t.val) ∗ owing c (owedC (3 * t.val) c))
      ⊢ iprop((∀ r, ((owns (c : Thread nD τ) (gB false) fullShare (G X W false t.val 1 c) ∗ sent true 0 c t.val ∗ sent false 0 c t.val
              ∗ landed X W true 0 c t.val ∗ owing c (owedC (3 * t.val) c))
            -∗ wp frame (wpE defs 𝒱 (c : Thread nD τ) bd) Set.univ (k r) Q))
          -∗ wp frame (wpE defs 𝒱 (c : Thread nD τ) bd) Set.univ
              (Prog.bind (onBufs (k2_part4 (F := F)) v5 v7 (k2_pay6 (xrow (X c) (xk false c 1)) (wcol (W c) (colk false t.val))) v91) k) Q) := by
  have ht := trip_lt t
  have hO : Above 0 (owedC (3 * t.val) c) := above_owedC (by omega) (by omega) c
  have hO' : Above (ixR (3 * t.val)) (owedC (3 * t.val) c) := above_owedC (by omega) (by unfold ixR; omega) c
  unfold onBufs
  simp only [k2_part4_eq_skeleton]
  unfold k2_part4_skel
  simp only [semSignalWord, semWaitWord, Prog.lift, Prog.bind_op, Prog.bind_ret, Prog.pure_eq_ret, Prog.bind_assoc]
  iintro ⟨#Hr, Hg, ⟨Hc1, Hp1⟩, ⟨Hc2, Hp2⟩, ⟨Hcr, Hpr⟩, HO⟩ Hk
  iapply (wp_sall 𝒱 c bd (m := gB false) rfl (w' := G X W false t.val 1 c) rfl) $$ Hg
  iintro Hg
  iapply (wp_sent X W κ 𝒱 c bd true 0 ht rfl rfl hO) $$ [Hc1 Hp1 HO]
  · isplitr; · iexact Hr
    isplitl [Hc1]; · iexact Hc1
    isplitl [Hp1] <;> iassumption
  iintro ⟨Hs1, Hp1, HO⟩
  iapply (wp_got X W κ 𝒱 c bd true 0 (T := 3 * t.val) ht rfl rfl rfl hO') $$ [Hcr Hpr HO]
  · isplitr; · iexact Hr
    isplitl [Hcr]; · iexact Hcr
    isplitl [Hpr] <;> iassumption
  iintro ⟨Hsl, He, Hpr, Hrr, HO⟩
  iapply (wp_sent X W κ 𝒱 c bd false 0 ht rfl rfl hO) $$ [Hc2 Hp2 HO]
  · isplitr; · iexact Hr
    isplitl [Hc2]; · iexact Hc2
    isplitl [Hp2] <;> iassumption
  iintro ⟨Hs2, Hp2, HO⟩
  simp only [ret_bind]
  iapply Hk
  isplitl [Hg]; · iexact Hg
  isplitl [Hs1 Hp1]; · isplitl [Hs1] <;> iassumption
  isplitl [Hs2 Hp2]; · isplitl [Hs2] <;> iassumption
  isplitl [Hsl He Hpr Hrr]
  · isplitl [Hsl]; · iexact Hsl
    isplitl [He]; · iexact He
    isplitl [Hpr] <;> iassumption
  iexact HO

theorem part5 (t : Fin k2_t1_loop.trips) {v5 v7 v114 : BitVec 32} {k : PUnit → Prog (TpuEff nD τ sig (Elt F) Λ₀ .tc) α} :
    iprop(recs X W κ ∗ landing false 0 c t.val (3 * t.val) ∗ owing c (owedC (3 * t.val) c)
        ∗ (owns (c : Thread nD τ) (gB true) fullShare (G X W true t.val 1 c) ∗ owns (c : Thread nD τ) (gB false) fullShare (G X W false t.val 1 c))
        ∗ owns (c : Thread nD τ) (slot true 0) fullShare (V X W true t.val 0 (nxt (!true) c))
        ∗ (some_ (c : Thread nD τ) (sbuf true 1) ∗ some_ (c : Thread nD τ) (sbuf false 1)) ∗ toGive true (3 * t.val) c)
      ⊢ iprop(((landed X W false 0 c t.val
              ∗ (some_ (c : Thread nD τ) (gB true) ∗ some_ (c : Thread nD τ) (gB false)) ∗ some_ (c : Thread nD τ) (slot true 0)
              ∗ (owns (c : Thread nD τ) (sbuf true 1) fullShare (V X W true t.val 1 c) ∗ owns (c : Thread nD τ) (sbuf false 1) fullShare (V X W false t.val 1 c))
              ∗ owing c (dues (3 * t.val + 1) c + dueC false (3 * t.val) c))
            -∗ wp frame (wpE defs 𝒱 (c : Thread nD τ) bd) Set.univ (k ⟨⟩) Q)
          -∗ wp frame (wpE defs 𝒱 (c : Thread nD τ) bd) Set.univ (Prog.bind (onBufs (k2_part5 (F := F)) c v5 v7 v114) k) Q) := by
  have ht := trip_lt t
  have hO' : Above (ixR (3 * t.val)) (owedC (3 * t.val) c) := above_owedC (by omega) (by unfold ixR; omega) c
  unfold onBufs
  simp only [k2_part5_eq_skeleton]
  unfold k2_part5_skel
  simp only [semSignalWord, semWaitWord, Prog.lift, Prog.bind_op, Prog.bind_ret, Prog.pure_eq_ret, Prog.bind_assoc]
  iintro ⟨#Hr, ⟨Hcr, Hpr⟩, HO, ⟨Hg1, Hg2⟩, Hsl1, ⟨Hs1, Hs2⟩, ⟨Htk, Hrc⟩⟩ Hk
  iapply (wp_got X W κ 𝒱 c bd false 0 (T := 3 * t.val) ht rfl rfl rfl hO') $$ [Hcr Hpr HO]
  · isplitr; · iexact Hr
    isplitl [Hcr]; · iexact Hcr
    isplitl [Hpr] <;> iassumption
  iintro ⟨Hsl2, He, Hpr, Hrr, HO⟩
  iapply (wp_lall 𝒱 c bd (m := gB true) rfl) $$ Hg1
  iintro Hg1
  iapply (wp_lslot 𝒱 c bd true 0 rfl rfl) $$ Hsl1
  iintro Hsl1
  iapply (wp_lall 𝒱 c bd (m := gB false) rfl) $$ Hg2
  iintro Hg2
  iapply (wp_lslot 𝒱 c bd false 0 rfl rfl) $$ Hsl2
  iintro Hsl2
  iapply (wp_dsbuf 𝒱 c bd true 1 rfl rfl) $$ Hs1
  iintro Hs1
  iapply (wp_ssbuf 𝒱 c bd true 1 rfl rfl (w' := V X W true t.val 1 c) rfl) $$ Hs1
  iintro Hs1
  iapply (wp_dsbuf 𝒱 c bd false 1 rfl rfl) $$ Hs2
  iintro Hs2
  iapply (wp_ssbuf 𝒱 c bd false 1 rfl rfl (w' := V X W false t.val 1 c) rfl) $$ Hs2
  iintro Hs2
  iapply (wp_give X W κ 𝒱 c bd true (T := 3 * t.val) (by omega) rfl (left_tc c _ (k2_dev5_eq c)) one_word
    (dues (3 * t.val + 1) c + dueC false (3 * t.val) c)) $$ [Htk Hrc HO]
  · isplitr; · iexact Hr
    isplitl [Htk]; · iexact Htk
    isplitl [Hrc] <;> iassumption
  iintro HO
  simp only [ret_bind]
  iapply Hk
  isplitl [Hsl2 He Hpr Hrr]
  · isplitl [Hsl2]; · iexact Hsl2
    isplitl [He]; · iexact He
    isplitl [Hpr] <;> iassumption
  isplitl [Hg1 Hg2]
  · isplitl [Hg1] <;> (iapply some_intro; iassumption)
  isplitl [Hsl1]; · iapply some_intro; iexact Hsl1
  isplitl [Hs1 Hs2]; · isplitl [Hs1] <;> iassumption
  iexact HO

theorem part6 (t : Fin k2_t1_loop.trips) {v2 v5 v7 : BitVec 32}
    {k : (Σ' (_ : BitVec 32), BitVec 32) → Prog (TpuEff nD τ sig (Elt F) Λ₀ .tc) α} :
    iprop(recs X W κ ∗ toGive false (3 * t.val) c ∗ owing c (dues (3 * t.val + 1) c + dueC false (3 * t.val) c)
        ∗ (credIn true c (3 * t.val + 1) ∗ credIn false c (3 * t.val + 1) ∗ posC true c (3 * t.val + 1) ∗ posC false c (3 * t.val + 1))
        ∗ owns (c : Thread nD τ) (sbuf true 1) fullShare (V X W true t.val 1 c) ∗ toSend true 1 c t.val)
      ⊢ iprop((∀ r, ((cred (tallyAt (cellS true 1 c) 0 N) ∗ (posC true c (3 * t.val + 2) ∗ posC false c (3 * t.val + 2))
              ∗ owing c (owedC (3 * t.val + 1) c + dueR false (3 * t.val + 1) c))
            -∗ wp frame (wpE defs 𝒱 (c : Thread nD τ) bd) Set.univ (k r) Q))
          -∗ wp frame (wpE defs 𝒱 (c : Thread nD τ) bd) Set.univ
              (Prog.bind (onBufs (k2_part6 (F := F)) c v2 v5 v7 (Scf.iv 0#32 1#32 t)) k) Q) := by
  have ht := trip_lt t
  unfold onBufs
  simp only [k2_part6_eq_skeleton]
  unfold k2_part6_skel
  simp only [semSignalWord, semWaitWord, Prog.lift, Prog.bind_op, Prog.bind_ret, Prog.pure_eq_ret, Prog.bind_assoc]
  iintro ⟨#Hr, ⟨Htg, Hrc⟩, HO, ⟨Hc1, Hc2, Hp1, Hp2⟩, Hs1, ⟨Hsl, He, Htk, Hrs⟩⟩ Hk
  iapply (wp_give X W κ 𝒱 c bd false (T := 3 * t.val) (by omega) rfl (right_tc c _ (k2_dev6_eq c)) one_word
    (dues (3 * t.val + 1) c)) $$ [Htg Hrc HO]
  · isplitr; · iexact Hr
    isplitl [Htg]; · iexact Htg
    isplitl [Hrc] <;> iassumption
  iintro HO
  iapply (wp_credits X W κ 𝒱 c bd (T := 3 * t.val + 1) ht 1 rfl (pass_iff t) rfl rfl one_word
    (O := dues (3 * t.val + 1) c) (fun h1 => above_dues c (by omega) (by unfold ixC ixR; split <;> omega))) $$ [Hc1 Hc2 Hp1 Hp2 HO]
  · isplitr; · iexact Hr
    isplitl [Hc1]; · iexact Hc1
    isplitl [Hc2]; · iexact Hc2
    isplitl [Hp1]; · iexact Hp1
    isplitl [Hp2]; · iexact Hp2
    iexact HO
  iintro ⟨Hp1, Hp2, HO⟩
  rw [dues_step (show 3 * t.val + 1 < 12 by omega)]
  iapply (wp_hop X W κ 𝒱 c bd true 1 (T := 3 * t.val + 1) ht (Fin.ext (by show (3 * t.val + 1) % 3 = 1; omega)) (right_at c _ (k2_dev7_eq c)) rfl rfl rfl rfl
    (owedC (3 * t.val + 1) c + dueR false (3 * t.val + 1) c)) $$ [Hs1 Hsl He Htk Hrs HO]
  · isplitr; · iexact Hr
    isplitl [Hs1]; · iexact Hs1
    isplitl [Hsl]; · iexact Hsl
    isplitl [He]; · iexact He
    isplitl [Htk]; · iexact Htk
    isplitl [Hrs] <;> iassumption
  iintro ⟨Hcr, HO⟩
  simp only [ret_bind]
  iapply Hk
  isplitl [Hcr]; · iexact Hcr
  isplitl [Hp1 Hp2]; · isplitl [Hp1] <;> iassumption
  iexact HO

theorem part7 (t : Fin k2_t1_loop.trips) {v147 v150 : BitVec 32} {k : PUnit → Prog (TpuEff nD τ sig (Elt F) Λ₀ .tc) α} :
    iprop(recs X W κ ∗ owns (c : Thread nD τ) (sbuf false 1) fullShare (V X W false t.val 1 c) ∗ toSend false 1 c t.val
        ∗ owing c (owedC (3 * t.val + 1) c + dueR false (3 * t.val + 1) c)
        ∗ (xFree X true c ∗ xFree X false c ∗ wHas W true c (colk true t.val) ∗ wHas W false c (colk false t.val))
        ∗ some_ (c : Thread nD τ) (gB true) ∗ some_ (c : Thread nD τ) (gB false))
      ⊢ iprop(((cred (tallyAt (cellS false 1 c) 0 N) ∗ owing c (owedC (3 * t.val + 1) c)
              ∗ (xHas X true c (xk true c 2) ∗ xHas X false c (xk false c 2) ∗ wHas W true c (colk true t.val) ∗ wHas W false c (colk false t.val))
              ∗ owns (c : Thread nD τ) (gB true) fullShare (G X W true t.val 2 c) ∗ owns (c : Thread nD τ) (gB false) fullShare (G X W false t.val 2 c))
            -∗ wp frame (wpE defs 𝒱 (c : Thread nD τ) bd) Set.univ (k ⟨⟩) Q)
          -∗ wp frame (wpE defs 𝒱 (c : Thread nD τ) bd) Set.univ (Prog.bind (onBufs (k2_part7 (F := F)) c v147 v150) k) Q) := by
  have ht := trip_lt t
  have hO : Above 0 (owedC (3 * t.val + 1) c) := above_owedC (by omega) (by omega) c
  unfold onBufs
  simp only [k2_part7_eq_skeleton]
  unfold k2_part7_skel
  simp only [semSignalWord, semWaitWord, Prog.lift, Prog.bind_op, Prog.bind_ret, Prog.pure_eq_ret, Prog.bind_assoc]
  iintro ⟨#Hr, Hs, ⟨Hsl, He, Htk, Hrs⟩, HO, ⟨Hx1, Hx2, Hw1, Hw2⟩, Hg1, Hg2⟩ Hk
  iapply (wp_hop X W κ 𝒱 c bd false 1 (T := 3 * t.val + 1) ht (Fin.ext (by show (3 * t.val + 1) % 3 = 1; omega)) (left_at c _ (k2_dev8_eq c)) rfl rfl rfl rfl
    (owedC (3 * t.val + 1) c)) $$ [Hs Hsl He Htk Hrs HO]
  · isplitr; · iexact Hr
    isplitl [Hs]; · iexact Hs
    isplitl [Hsl]; · iexact Hsl
    isplitl [He]; · iexact He
    isplitl [Htk]; · iexact Htk
    isplitl [Hrs] <;> iassumption
  iintro ⟨Hcr, HO⟩
  iapply (wp_xgo X 𝒱 c bd true (xk true c 2) rfl (off5_at c 1) rfl rfl) $$ Hx1
  iintro Hx1
  iapply (wp_xgo X 𝒱 c bd false (xk false c 2) rfl (off6_at c 1) rfl rfl) $$ Hx2
  iintro Hx2
  iapply (wp_xin X W κ 𝒱 c bd true (xk true c 2) rfl rfl hO) $$ [Hx1 HO]
  · isplitr; · iexact Hr
    isplitl [Hx1] <;> iassumption
  iintro ⟨Hx1, HO⟩
  iapply (wp_xin X W κ 𝒱 c bd false (xk false c 2) rfl rfl hO) $$ [Hx2 HO]
  · isplitr; · iexact Hr
    isplitl [Hx2] <;> iassumption
  iintro ⟨Hx2, HO⟩
  iapply (wp_lx X 𝒱 c bd true rfl rfl) $$ Hx1
  iintro Hx1
  iapply (wp_lw W 𝒱 c bd true rfl rfl) $$ Hw1
  iintro Hw1
  iapply (wp_dall 𝒱 c bd (m := gB true) rfl) $$ Hg1
  iintro Hg1
  iapply (wp_sall 𝒱 c bd (m := gB true) rfl (w' := G X W true t.val 2 c) rfl) $$ Hg1
  iintro Hg1
  iapply (wp_lx X 𝒱 c bd false rfl rfl) $$ Hx2
  iintro Hx2
  iapply (wp_lw W 𝒱 c bd false rfl rfl) $$ Hw2
  iintro Hw2
  iapply (wp_dall 𝒱 c bd (m := gB false) rfl) $$ Hg2
  iintro Hg2
  iapply (wp_sall 𝒱 c bd (m := gB false) rfl (w' := G X W false t.val 2 c) rfl) $$ Hg2
  iintro Hg2
  simp only [ret_bind]
  iapply Hk
  isplitl [Hcr]; · iexact Hcr
  isplitl [HO]; · iexact HO
  isplitl [Hx1 Hx2 Hw1 Hw2]
  · isplitl [Hx1]; · iexact Hx1
    isplitl [Hx2]; · iexact Hx2
    isplitl [Hw1] <;> iassumption
  isplitl [Hg1] <;> iassumption

theorem part8 (t : Fin k2_t1_loop.trips) {v5 v7 : BitVec 32}
    {k : Vec F S2048x512 .f32 → Prog (TpuEff nD τ sig (Elt F) Λ₀ .tc) α} :
    iprop(recs X W κ ∗ sending true 1 c t.val ∗ sending false 1 c t.val
        ∗ landing true 1 c t.val (3 * t.val + 1) ∗ landing false 1 c t.val (3 * t.val + 1) ∗ owing c (owedC (3 * t.val + 1) c)
        ∗ owns (c : Thread nD τ) (gB true) fullShare (G X W true t.val 2 c))
      ⊢ iprop(((sent true 1 c t.val ∗ sent false 1 c t.val ∗ landed X W true 1 c t.val ∗ landed X W false 1 c t.val ∗ owing c (owedC (3 * t.val + 1) c)
              ∗ some_ (c : Thread nD τ) (gB true))
            -∗ wp frame (wpE defs 𝒱 (c : Thread nD τ) bd) Set.univ (k (G X W true t.val 2 c)) Q)
          -∗ wp frame (wpE defs 𝒱 (c : Thread nD τ) bd) Set.univ (Prog.bind (onBufs (k2_part8 (F := F)) v5 v7) k) Q) := by
  have ht := trip_lt t
  have hO : Above 0 (owedC (3 * t.val + 1) c) := above_owedC (by omega) (by omega) c
  have hO' : Above (ixR (3 * t.val + 1)) (owedC (3 * t.val + 1) c) := above_owedC (by omega) (by unfold ixR; omega) c
  unfold onBufs
  simp only [k2_part8_eq_skeleton]
  unfold k2_part8_skel
  simp only [semSignalWord, semWaitWord, Prog.lift, Prog.bind_op, Prog.bind_ret, Prog.pure_eq_ret, Prog.bind_assoc]
  iintro ⟨#Hr, ⟨Hc1, Hp1⟩, ⟨Hc2, Hp2⟩, ⟨Hcr1, Hpr1⟩, ⟨Hcr2, Hpr2⟩, HO, Hg⟩ Hk
  iapply (wp_sent X W κ 𝒱 c bd true 1 ht rfl rfl hO) $$ [Hc1 Hp1 HO]
  · isplitr; · iexact Hr
    isplitl [Hc1]; · iexact Hc1
    isplitl [Hp1] <;> iassumption
  iintro ⟨Hs1, Hp1, HO⟩
  iapply (wp_got X W κ 𝒱 c bd true 1 (T := 3 * t.val + 1) ht rfl rfl rfl hO') $$ [Hcr1 Hpr1 HO]
  · isplitr; · iexact Hr
    isplitl [Hcr1]; · iexact Hcr1
    isplitl [Hpr1] <;> iassumption
  iintro ⟨Hsl1, He1, Hpr1, Hrr1, HO⟩
  iapply (wp_sent X W κ 𝒱 c bd false 1 ht rfl rfl hO) $$ [Hc2 Hp2 HO]
  · isplitr; · iexact Hr
    isplitl [Hc2]; · iexact Hc2
    isplitl [Hp2] <;> iassumption
  iintro ⟨Hs2, Hp2, HO⟩
  iapply (wp_got X W κ 𝒱 c bd false 1 (T := 3 * t.val + 1) ht rfl rfl rfl hO') $$ [Hcr2 Hpr2 HO]
  · isplitr; · iexact Hr
    isplitl [Hcr2]; · iexact Hcr2
    isplitl [Hpr2] <;> iassumption
  iintro ⟨Hsl2, He2, Hpr2, Hrr2, HO⟩
  iapply (wp_lall 𝒱 c bd (m := gB true) rfl) $$ Hg
  iintro Hg
  simp only [ret_bind]
  iapply Hk
  isplitl [Hs1 Hp1]; · isplitl [Hs1] <;> iassumption
  isplitl [Hs2 Hp2]; · isplitl [Hs2] <;> iassumption
  isplitl [Hsl1 He1 Hpr1 Hrr1]
  · isplitl [Hsl1]; · iexact Hsl1
    isplitl [He1]; · iexact He1
    isplitl [Hpr1] <;> iassumption
  isplitl [Hsl2 He2 Hpr2 Hrr2]
  · isplitl [Hsl2]; · iexact Hsl2
    isplitl [He2]; · iexact He2
    isplitl [Hpr2] <;> iassumption
  isplitl [HO]; · iexact HO
  iapply some_intro; iexact Hg

theorem part9 (t : Fin k2_t1_loop.trips) {v2 v5 v7 : BitVec 32}
    {k : (Σ' (_ : BitVec 32) (_ : BitVec 32), BitVec 32) → Prog (TpuEff nD τ sig (Elt F) Λ₀ .tc) α} :
    iprop(recs X W κ ∗ owing c (owedC (3 * t.val + 1) c)
        ∗ owns (c : Thread nD τ) (gB false) fullShare (G X W false t.val 2 c)
        ∗ (owns (c : Thread nD τ) (slot true 1) fullShare (V X W true t.val 1 (nxt (!true) c))
          ∗ owns (c : Thread nD τ) (slot false 1) fullShare (V X W false t.val 1 (nxt (!false) c)))
        ∗ (some_ (c : Thread nD τ) (sbuf true 0) ∗ some_ (c : Thread nD τ) (sbuf false 0))
        ∗ toGive true (3 * t.val + 1) c ∗ toGive false (3 * t.val + 1) c)
      ⊢ iprop((∀ w w', ((owing c (dues (3 * t.val + 2) c) ∗ some_ (c : Thread nD τ) (gB false)
              ∗ (some_ (c : Thread nD τ) (slot true 1) ∗ some_ (c : Thread nD τ) (slot false 1))
              ∗ (owns (c : Thread nD τ) (sbuf true 0) fullShare (V X W true t.val 2 c) ∗ owns (c : Thread nD τ) (sbuf false 0) fullShare (V X W false t.val 2 c)))
            -∗ wp frame (wpE defs 𝒱 (c : Thread nD τ) bd) Set.univ (k ⟨w, w', 1#32⟩) Q))
          -∗ wp frame (wpE defs 𝒱 (c : Thread nD τ) bd) Set.univ (Prog.bind (onBufs (k2_part9 (F := F)) c v2 v5 v7 (G X W true t.val 2 c)) k) Q) := by
  have ht := trip_lt t
  unfold onBufs
  simp only [k2_part9_eq_skeleton]
  unfold k2_part9_skel
  simp only [semSignalWord, semWaitWord, Prog.lift, Prog.bind_op, Prog.bind_ret, Prog.pure_eq_ret, Prog.bind_assoc]
  iintro ⟨#Hr, HO, Hg2, ⟨Hsl1, Hsl2⟩, ⟨Hs1, Hs2⟩, ⟨Htg1, Hrc1⟩, ⟨Htg2, Hrc2⟩⟩ Hk
  iapply (wp_lslot 𝒱 c bd true 1 rfl rfl) $$ Hsl1
  iintro Hsl1
  iapply (wp_lall 𝒱 c bd (m := gB false) rfl) $$ Hg2
  iintro Hg2
  iapply (wp_lslot 𝒱 c bd false 1 rfl rfl) $$ Hsl2
  iintro Hsl2
  iapply (wp_dsbuf 𝒱 c bd true 0 rfl rfl) $$ Hs1
  iintro Hs1
  iapply (wp_ssbuf 𝒱 c bd true 0 rfl rfl (w' := V X W true t.val 2 c) rfl) $$ Hs1
  iintro Hs1
  iapply (wp_dsbuf 𝒱 c bd false 0 rfl rfl) $$ Hs2
  iintro Hs2
  iapply (wp_ssbuf 𝒱 c bd false 0 rfl rfl (w' := V X W false t.val 2 c) rfl) $$ Hs2
  iintro Hs2
  iapply (wp_give X W κ 𝒱 c bd true (T := 3 * t.val + 1) (by omega) rfl (left_tc c _ (k2_dev9_eq c)) one_word
    (dues (3 * t.val + 2) c + dueC false (3 * t.val + 1) c)) $$ [Htg1 Hrc1 HO]
  · isplitr; · iexact Hr
    isplitl [Htg1]; · iexact Htg1
    isplitl [Hrc1] <;> iassumption
  iintro HO
  iapply (wp_give X W κ 𝒱 c bd false (T := 3 * t.val + 1) (by omega) rfl (right_tc c _ (k2_dev10_eq c)) one_word
    (dues (3 * t.val + 2) c)) $$ [Htg2 Hrc2 HO]
  · isplitr; · iexact Hr
    isplitl [Htg2]; · iexact Htg2
    isplitl [Hrc2] <;> iassumption
  iintro HO
  simp only [ret_bind]
  iapply Hk
  isplitl [HO]; · iexact HO
  isplitl [Hg2]; · iapply some_intro; iexact Hg2
  isplitl [Hsl1 Hsl2]
  · isplitl [Hsl1] <;> (iapply some_intro; iassumption)
  isplitl [Hs1] <;> iassumption

theorem part10 (t : Fin k2_t1_loop.trips) {v5 v7 v245 v248 : BitVec 32} {k : PUnit → Prog (TpuEff nD τ sig (Elt F) Λ₀ .tc) α} :
    iprop(recs X W κ ∗ owing c (dues (3 * t.val + 2) c)
        ∗ (credIn true c (3 * t.val + 2) ∗ credIn false c (3 * t.val + 2) ∗ posC true c (3 * t.val + 2) ∗ posC false c (3 * t.val + 2))
        ∗ (owns (c : Thread nD τ) (sbuf true 0) fullShare (V X W true t.val 2 c) ∗ owns (c : Thread nD τ) (sbuf false 0) fullShare (V X W false t.val 2 c))
        ∗ toSend true 2 c t.val ∗ toSend false 2 c t.val ∗ (xFree X true c ∗ xFree X false c))
      ⊢ iprop(((cred (tallyAt (cellS true 2 c) 0 N) ∗ cred (tallyAt (cellS false 2 c) 0 N)
              ∗ (posC true c (3 * t.val + 3) ∗ posC false c (3 * t.val + 3))
              ∗ owing c (owedC (3 * t.val + 2) c) ∗ xHas X true c (xk true c 3) ∗ xMoves X false c (xk false c 3))
            -∗ wp frame (wpE defs 𝒱 (c : Thread nD τ) bd) Set.univ (k ⟨⟩) Q)
          -∗ wp frame (wpE defs 𝒱 (c : Thread nD τ) bd) Set.univ
              (Prog.bind (onBufs (k2_part10 (F := F)) c v5 v7 (Scf.iv 0#32 1#32 t) v245 v248 1#32) k) Q) := by
  have ht := trip_lt t
  have hO : Above 0 (owedC (3 * t.val + 2) c) := above_owedC (by omega) (by omega) c
  unfold onBufs
  simp only [k2_part10_eq_skeleton]
  unfold k2_part10_skel
  simp only [semSignalWord, semWaitWord, Prog.lift, Prog.bind_op, Prog.bind_ret, Prog.pure_eq_ret, Prog.bind_assoc]
  iintro ⟨#Hr, HO, ⟨Hc1, Hc2, Hp1, Hp2⟩, ⟨Hs1, Hs2⟩, ⟨Hsl1, He1, Htk1, Hrs1⟩, ⟨Hsl2, He2, Htk2, Hrs2⟩, ⟨Hx1, Hx2⟩⟩ Hk
  iapply (wp_credits X W κ 𝒱 c bd (T := 3 * t.val + 2) ht 2 rfl (pass_iff t) rfl rfl one_word
    (O := dues (3 * t.val + 2) c) (fun h1 => above_dues c (by omega) (by unfold ixC ixR; split <;> omega))) $$ [Hc1 Hc2 Hp1 Hp2 HO]
  · isplitr; · iexact Hr
    isplitl [Hc1]; · iexact Hc1
    isplitl [Hc2]; · iexact Hc2
    isplitl [Hp1]; · iexact Hp1
    isplitl [Hp2]; · iexact Hp2
    iexact HO
  iintro ⟨Hp1, Hp2, HO⟩
  rw [dues_step (show 3 * t.val + 2 < 12 by omega)]
  iapply (wp_hop X W κ 𝒱 c bd true 2 (T := 3 * t.val + 2) ht (Fin.ext (by show (3 * t.val + 2) % 3 = 2; omega)) (right_at c _ (k2_dev11_eq c)) rfl rfl rfl rfl
    (owedC (3 * t.val + 2) c + dueR false (3 * t.val + 2) c)) $$ [Hs1 Hsl1 He1 Htk1 Hrs1 HO]
  · isplitr; · iexact Hr
    isplitl [Hs1]; · iexact Hs1
    isplitl [Hsl1]; · iexact Hsl1
    isplitl [He1]; · iexact He1
    isplitl [Htk1]; · iexact Htk1
    isplitl [Hrs1] <;> iassumption
  iintro ⟨Hcr1, HO⟩
  iapply (wp_hop X W κ 𝒱 c bd false 2 (T := 3 * t.val + 2) ht (Fin.ext (by show (3 * t.val + 2) % 3 = 2; omega)) (left_at c _ (k2_dev12_eq c)) rfl rfl rfl rfl
    (owedC (3 * t.val + 2) c)) $$ [Hs2 Hsl2 He2 Htk2 Hrs2 HO]
  · isplitr; · iexact Hr
    isplitl [Hs2]; · iexact Hs2
    isplitl [Hsl2]; · iexact Hsl2
    isplitl [He2]; · iexact He2
    isplitl [Htk2]; · iexact Htk2
    isplitl [Hrs2] <;> iassumption
  iintro ⟨Hcr2, HO⟩
  iapply (wp_xgo X 𝒱 c bd true (xk true c 3) rfl (off5_at c 2) rfl rfl) $$ Hx1
  iintro Hx1
  iapply (wp_xgo X 𝒱 c bd false (xk false c 3) rfl (off6_at c 2) rfl rfl) $$ Hx2
  iintro Hx2
  iapply (wp_xin X W κ 𝒱 c bd true (xk true c 3) rfl rfl hO) $$ [Hx1 HO]
  · isplitr; · iexact Hr
    isplitl [Hx1] <;> iassumption
  iintro ⟨Hx1, HO⟩
  simp only [ret_bind]
  iapply Hk
  isplitl [Hcr1]; · iexact Hcr1
  isplitl [Hcr2]; · iexact Hcr2
  isplitl [Hp1 Hp2]; · isplitl [Hp1] <;> iassumption
  isplitl [HO]; · iexact HO
  isplitl [Hx1] <;> iassumption

theorem part11 (t : Fin k2_t1_loop.trips) {v7 : BitVec 32} {k : PUnit → Prog (TpuEff nD τ sig (Elt F) Λ₀ .tc) α} :
    iprop(recs X W κ ∗ owing c (owedC (3 * t.val + 2) c) ∗ (xHas X true c (xk true c 3) ∗ xMoves X false c (xk false c 3))
        ∗ (wHas W true c (colk true t.val) ∗ wHas W false c (colk false t.val))
        ∗ (some_ (c : Thread nD τ) (gB true) ∗ some_ (c : Thread nD τ) (gB false)) ∗ sending true 2 c t.val)
      ⊢ iprop(((owing c (owedC (3 * t.val + 2) c) ∗ (xHas X true c (xk true c 3) ∗ xHas X false c (xk false c 3))
              ∗ (wHas W true c (colk true t.val) ∗ wHas W false c (colk false t.val))
              ∗ (owns (c : Thread nD τ) (gB true) fullShare (G X W true t.val 3 c) ∗ owns (c : Thread nD τ) (gB false) fullShare (G X W false t.val 3 c))
              ∗ sent true 2 c t.val)
            -∗ wp frame (wpE defs 𝒱 (c : Thread nD τ) bd) Set.univ (k ⟨⟩) Q)
          -∗ wp frame (wpE defs 𝒱 (c : Thread nD τ) bd) Set.univ (Prog.bind (onBufs (k2_part11 (F := F)) c v7) k) Q) := by
  have ht := trip_lt t
  have hO : Above 0 (owedC (3 * t.val + 2) c) := above_owedC (by omega) (by omega) c
  unfold onBufs
  simp only [k2_part11_eq_skeleton]
  unfold k2_part11_skel
  simp only [semSignalWord, semWaitWord, Prog.lift, Prog.bind_op, Prog.bind_ret, Prog.pure_eq_ret, Prog.bind_assoc]
  iintro ⟨#Hr, HO, ⟨Hx1, Hx2⟩, ⟨Hw1, Hw2⟩, ⟨Hg1, Hg2⟩, ⟨Hc1, Hp1⟩⟩ Hk
  iapply (wp_xin X W κ 𝒱 c bd false (xk false c 3) rfl rfl hO) $$ [Hx2 HO]
  · isplitr; · iexact Hr
    isplitl [Hx2] <;> iassumption
  iintro ⟨Hx2, HO⟩
  iapply (wp_lx X 𝒱 c bd true rfl rfl) $$ Hx1
  iintro Hx1
  iapply (wp_lw W 𝒱 c bd true rfl rfl) $$ Hw1
  iintro Hw1
  iapply (wp_dall 𝒱 c bd (m := gB true) rfl) $$ Hg1
  iintro Hg1
  iapply (wp_sall 𝒱 c bd (m := gB true) rfl (w' := G X W true t.val 3 c) rfl) $$ Hg1
  iintro Hg1
  iapply (wp_lx X 𝒱 c bd false rfl rfl) $$ Hx2
  iintro Hx2
  iapply (wp_lw W 𝒱 c bd false rfl rfl) $$ Hw2
  iintro Hw2
  iapply (wp_dall 𝒱 c bd (m := gB false) rfl) $$ Hg2
  iintro Hg2
  iapply (wp_sall 𝒱 c bd (m := gB false) rfl (w' := G X W false t.val 3 c) rfl) $$ Hg2
  iintro Hg2
  iapply (wp_sent X W κ 𝒱 c bd true 2 ht rfl rfl hO) $$ [Hc1 Hp1 HO]
  · isplitr; · iexact Hr
    isplitl [Hc1]; · iexact Hc1
    isplitl [Hp1] <;> iassumption
  iintro ⟨Hs1, Hp1, HO⟩
  simp only [ret_bind]
  iapply Hk
  isplitl [HO]; · iexact HO
  isplitl [Hx1 Hx2]; · isplitl [Hx1] <;> iassumption
  isplitl [Hw1 Hw2]; · isplitl [Hw1] <;> iassumption
  isplitl [Hg1 Hg2]; · isplitl [Hg1] <;> iassumption
  isplitl [Hs1] <;> iassumption

theorem part12 (t : Fin k2_t1_loop.trips) {v5 : BitVec 32}
    {k : (Σ' (_ : FVec F S2048x512 .f32) (_ : Vec F S2048x512 .f32), FVec F S2048x512 .f32) → Prog (TpuEff nD τ sig (Elt F) Λ₀ .tc) α} :
    iprop(recs X W κ ∗ owing c (owedC (3 * t.val + 2) c) ∗ landing true 2 c t.val (3 * t.val + 2) ∗ sending false 2 c t.val
        ∗ landing false 2 c t.val (3 * t.val + 2)
        ∗ (owns (c : Thread nD τ) (gB true) fullShare (G X W true t.val 3 c) ∗ owns (c : Thread nD τ) (gB false) fullShare (G X W false t.val 3 c)))
      ⊢ iprop(((owing c (owedC (3 * t.val + 2) c) ∗ landed X W true 2 c t.val ∗ sent false 2 c t.val ∗ landed X W false 2 c t.val
              ∗ (some_ (c : Thread nD τ) (gB true) ∗ some_ (c : Thread nD τ) (gB false)))
            -∗ wp frame (wpE defs 𝒱 (c : Thread nD τ) bd) Set.univ
                (k ⟨k2_pay16 (G X W true t.val 3 c) (V X W true t.val 2 (nxt (!true) c)), G X W false t.val 3 c, k2_pay17 (V X W false t.val 2 (nxt (!false) c))⟩) Q)
          -∗ wp frame (wpE defs 𝒱 (c : Thread nD τ) bd) Set.univ (Prog.bind (onBufs (k2_part12 (F := F)) v5) k) Q) := by
  have ht := trip_lt t
  have hO : Above 0 (owedC (3 * t.val + 2) c) := above_owedC (by omega) (by omega) c
  have hO' : Above (ixR (3 * t.val + 2)) (owedC (3 * t.val + 2) c) := above_owedC (by omega) (by unfold ixR; omega) c
  unfold onBufs
  simp only [k2_part12_eq_skeleton]
  unfold k2_part12_skel
  simp only [semSignalWord, semWaitWord, Prog.lift, Prog.bind_op, Prog.bind_ret, Prog.pure_eq_ret, Prog.bind_assoc]
  iintro ⟨#Hr, HO, ⟨Hcr1, Hpr1⟩, ⟨Hc2, Hp2⟩, ⟨Hcr2, Hpr2⟩, ⟨Hg1, Hg2⟩⟩ Hk
  iapply (wp_got X W κ 𝒱 c bd true 2 (T := 3 * t.val + 2) ht rfl rfl rfl hO') $$ [Hcr1 Hpr1 HO]
  · isplitr; · iexact Hr
    isplitl [Hcr1]; · iexact Hcr1
    isplitl [Hpr1] <;> iassumption
  iintro ⟨Hsl1, He1, Hpr1, Hrr1, HO⟩
  iapply (wp_sent X W κ 𝒱 c bd false 2 ht rfl rfl hO) $$ [Hc2 Hp2 HO]
  · isplitr; · iexact Hr
    isplitl [Hc2]; · iexact Hc2
    isplitl [Hp2] <;> iassumption
  iintro ⟨Hs2, Hp2, HO⟩
  iapply (wp_got X W κ 𝒱 c bd false 2 (T := 3 * t.val + 2) ht rfl rfl rfl hO') $$ [Hcr2 Hpr2 HO]
  · isplitr; · iexact Hr
    isplitl [Hcr2]; · iexact Hcr2
    isplitl [Hpr2] <;> iassumption
  iintro ⟨Hsl2, He2, Hpr2, Hrr2, HO⟩
  iapply (wp_lall 𝒱 c bd (m := gB true) rfl) $$ Hg1
  iintro Hg1
  iapply (wp_lslot 𝒱 c bd true 2 rfl rfl) $$ Hsl1
  iintro Hsl1
  iapply (wp_lall 𝒱 c bd (m := gB false) rfl) $$ Hg2
  iintro Hg2
  iapply (wp_lslot 𝒱 c bd false 2 rfl rfl) $$ Hsl2
  iintro Hsl2
  simp only [ret_bind]
  iapply Hk
  isplitl [HO]; · iexact HO
  isplitl [Hsl1 He1 Hpr1 Hrr1]
  · isplitl [Hsl1]; · iexact Hsl1
    isplitl [He1]; · iexact He1
    isplitl [Hpr1] <;> iassumption
  isplitl [Hs2 Hp2]; · isplitl [Hs2] <;> iassumption
  isplitl [Hsl2 He2 Hpr2 Hrr2]
  · isplitl [Hsl2]; · iexact Hsl2
    isplitl [He2]; · iexact He2
    isplitl [Hpr2] <;> iassumption
  isplitl [Hg1] <;> (iapply some_intro; iassumption)

end Cert.KernelIdeal
-- ==== Proof.IdealTrip.lean ====
/-
  One trip of the ring kernel's loop, from its parts, and the loop. What a ring holds before pass b is ringAt.
-/
module

public import proofs.«01_k».proof.Proof.IdealParts

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

local notation "𝕄" => MT nD τ sig ℕ (Elt F) ℕ UU ℕ

variable (X : Dev nD → S8192x2048.Idx → Elt F .bf16) (W : Dev nD → S2048x4096.Idx → Elt F .bf16)

/-! ## The slots' way round -/

/-- Who holds slot j (0 or 1) of ring δ before pass b: the device's own writer has it, to write; after the last pass its owner. -/
def slotIn (δ : Bool) (j : Fin 3) (c : Dev nD) (b : ℕ) : sProp 𝕄 := if b < 4 then slotAt δ j (nxt δ c) b else slotAt δ j c b
/-- The same for slot 2, which comes back in the next pass. -/
def slot2 (δ : Bool) (c : Dev nD) (b : ℕ) : sProp 𝕄 := if b = 0 then slotAt δ 2 (nxt δ c) 0 else slotAt δ 2 c b
/-- What stays behind when a slot is sent along. -/
def keep (δ : Bool) (j : Fin 3) (c : Dev nD) (b : ℕ) : sProp 𝕄 := if b < 3 then iprop(emp) else slotAt δ j c (b + 1)
def keep2 (δ : Bool) (c : Dev nD) (b : ℕ) : sProp 𝕄 := if b = 0 then slotAt δ 2 (nxt δ c) 0 else iprop(emp)

theorem give0 (δ : Bool) (c : Dev nD) (b : ℕ) : slotAt δ 0 c (b + 1) ⊢ iprop(extra (F := F) (!δ) b 1 c ∗ keep δ 0 c b) := by
  unfold extra keep
  simp only [Bool.not_not]
  by_cases h : b < 3
  · rw [if_pos h, if_pos h]; iintro H; isplitl [H]; · iexact H
    iempintro
  · rw [if_neg h, if_neg h]; iintro H; isplitr; · iempintro
    iexact H
theorem give1 (δ : Bool) (c : Dev nD) (b : ℕ) : slotAt δ 1 c (b + 1) ⊢ iprop(extra (F := F) (!δ) b 2 c ∗ keep δ 1 c b) := by
  unfold extra keep
  simp only [Bool.not_not]
  by_cases h : b < 3
  · rw [if_pos h, if_pos h]; iintro H; isplitl [H]; · iexact H
    iempintro
  · rw [if_neg h, if_neg h]; iintro H; isplitr; · iempintro
    iexact H
theorem give2 (δ : Bool) (c : Dev nD) (b : ℕ) : slot2 δ c b ⊢ iprop(extra (F := F) (!δ) b 0 c ∗ keep2 δ c b) := by
  unfold extra keep2 slot2
  simp only [Bool.not_not]
  by_cases h : b = 0
  · rw [if_pos h, if_pos h, if_pos h]; iintro H; isplitr; · iempintro
    iexact H
  · rw [if_neg h, if_neg h, if_neg h]; iintro H; isplitl [H]; · iexact H
    iempintro
theorem get0 (δ : Bool) (c : Dev nD) {b : ℕ} (hb : b < 4) : iprop(extra (!δ) b 1 (nxt δ c) ∗ keep δ 0 c b) ⊢ slotIn (F := F) δ 0 c (b + 1) := by
  unfold extra keep slotIn
  simp only [Bool.not_not]
  by_cases h : b < 3
  · rw [if_pos h, if_pos h, if_pos (by omega)]; iintro ⟨H, -⟩; iexact H
  · rw [if_neg h, if_neg h, if_neg (by omega)]; iintro ⟨-, H⟩; iexact H
theorem get1 (δ : Bool) (c : Dev nD) {b : ℕ} (hb : b < 4) : iprop(extra (!δ) b 2 (nxt δ c) ∗ keep δ 1 c b) ⊢ slotIn (F := F) δ 1 c (b + 1) := by
  unfold extra keep slotIn
  simp only [Bool.not_not]
  by_cases h : b < 3
  · rw [if_pos h, if_pos h, if_pos (by omega)]; iintro ⟨H, -⟩; iexact H
  · rw [if_neg h, if_neg h, if_neg (by omega)]; iintro ⟨-, H⟩; iexact H
theorem get2 (δ : Bool) (c : Dev nD) (b : ℕ) : iprop(extra (!δ) b 0 (nxt δ c) ∗ keep2 δ c b) ⊢ slotAt (F := F) δ 2 (nxt δ c) b := by
  unfold extra keep2
  simp only [Bool.not_not]
  by_cases h : b = 0
  · rw [if_pos h, if_pos h, h]; iintro ⟨-, H⟩; iexact H
  · rw [if_neg h, if_neg h]; iintro ⟨H, -⟩; iexact H

/-- A slot read in pass b, its cell at the next round: free for the next pass's transfer. -/
theorem slot_back (δ : Bool) (j : Fin 3) (c : Dev nD) (b : ℕ) :
    iprop(some_ (c : Thread nD τ) (slot δ j) ∗ reached ER (cellR δ j c) (b + 1)) ⊢ slotAt (F := F) δ j c (b + 1) := by
  unfold slotAt
  exact .rfl
theorem slot2_next (δ : Bool) (c : Dev nD) (b : ℕ) : slotAt (F := F) δ 2 c (b + 1) ⊢ slot2 δ c (b + 1) := by
  unfold slot2
  rw [if_neg (Nat.succ_ne_zero b)]

/-! ## What a ring holds between passes -/

/-- The rights and credits of pass b. -/
def rights (δ : Bool) (c : Dev nD) (b : ℕ) : sProp 𝕄 :=
  iprop((hopTok δ 0 c b ∗ hopTok δ 1 c b ∗ hopTok δ 2 c b)
    ∗ (dutyTok ER (cellC δ (nxt (!δ) c)) 0 (3 * b) ∗ dutyTok ER (cellC δ (nxt (!δ) c)) 0 (3 * b + 1) ∗ dutyTok ER (cellC δ (nxt (!δ) c)) 0 (3 * b + 2))
    ∗ (cred (tallyAt (cellR δ 0 c) (ixR (3 * b)) N) ∗ cred (tallyAt (cellR δ 1 c) (ixR (3 * b + 1)) N) ∗ cred (tallyAt (cellR δ 2 c) (ixR (3 * b + 2)) N))
    ∗ (credIn δ c (3 * b) ∗ credIn δ c (3 * b + 1) ∗ credIn δ c (3 * b + 2)))
/-- The result's column blocks of a ring, those of the passes before n finished. -/
def outDone (δ : Bool) (c : Dev nD) (n : ℕ) : sProp 𝕄 :=
  bigSep (Finset.range 4) fun b => if b < n then owns (c : Thread nD τ) (oSlice (colk δ b)) fullShare (outV X W δ b c)
    else some_ (c : Thread nD τ) (oSlice (colk δ b))
/-- A ring's slots before pass b. -/
def slotsAt (δ : Bool) (c : Dev nD) (b : ℕ) : sProp 𝕄 := iprop(slotIn δ 0 c b ∗ slotIn δ 1 c b ∗ slot2 δ c b)
/-- Its cells but the credits', its buffers, and the rights of the passes to come. -/
def ringRest (δ : Bool) (c : Dev nD) (b : ℕ) : sProp 𝕄 :=
  iprop((posS δ 0 c b ∗ posS δ 1 c b ∗ posS δ 2 c b) ∗ (posR δ 0 c b ∗ posR δ 1 c b ∗ posR δ 2 c b)
    ∗ (xFree X δ c ∗ wFree W δ c) ∗ (some_ (c : Thread nD τ) (sbuf δ 0) ∗ some_ (c : Thread nD τ) (sbuf δ 1))
    ∗ some_ (c : Thread nD τ) (gB δ) ∗ (some_ (c : Thread nD τ) (oB δ) ∗ semVal ((c : Thread nD τ), .dma (sO δ)) 0)
    ∗ outDone X W δ c b ∗ bigSep (Finset.Ico b 4) (rights δ c))
/-- All a ring holds before pass b. -/
def ringAt (δ : Bool) (c : Dev nD) (b : ℕ) : sProp 𝕄 := iprop(slotsAt δ c b ∗ posC δ c (3 * b) ∗ ringRest X W δ c b)
/-- What holds throughout: the cells, the levels, and that the neighbours' credit cells are open. -/
def always (κ : GSem nD τ sig → ℕ) (c : Dev nD) : sProp 𝕄 :=
  iprop(recs X W κ ∗ reached ER (cellC true (nxt false c)) 0 ∗ reached ER (cellC false (nxt true c)) 0)
instance always_persistent (κ : GSem nD τ sig → ℕ) (c : Dev nD) : BI.Persistent (always X W κ c) := by unfold always; infer_instance

theorem out_take (δ : Bool) (c : Dev nD) {b : ℕ} (hb : b < 4) :
    outDone X W δ c b ⊢ iprop(some_ (c : Thread nD τ) (oSlice (colk δ b))
      ∗ (owns (c : Thread nD τ) (oSlice (colk δ b)) fullShare (outV X W δ b c) -∗ outDone X W δ c (b + 1))) := by
  unfold outDone
  rw [bigSep_erase (Finset.mem_range.mpr hb), bigSep_erase (s := Finset.range 4) (Finset.mem_range.mpr hb) (Φ := fun b' => if b' < b + 1 then _ else _)]
  rw [if_neg (Nat.lt_irrefl b), if_pos (Nat.lt_succ_self b)]
  rw [bigSep_congr (s := (Finset.range 4).erase b) (Ψ := fun b' => if b' < b + 1 then owns (c : Thread nD τ) (oSlice (colk δ b')) fullShare (outV X W δ b' c)
    else some_ (c : Thread nD τ) (oSlice (colk δ b'))) ?_]
  · show iprop(_ ∗ _) ⊢ iprop(_ ∗ (_ -∗ (_ ∗ _)))
    iintro ⟨H, Hr⟩
    isplitl [H]; · iexact H
    iintro H
    isplitl [H] <;> iassumption
  · intro j hj
    have := (Finset.mem_erase.mp hj).1
    by_cases h : j < b
    · rw [if_pos h, if_pos (by omega)]
    · rw [if_neg h, if_neg (by omega)]

/-- The rights of the passes from b on: those of pass b, and the later ones. -/
theorem passes_take (Φ : ℕ → sProp 𝕄) {b : ℕ} (hb : b < 4) :
    bigSep (Finset.Ico b 4) Φ = iprop(Φ b ∗ bigSep (Finset.Ico (b + 1) 4) Φ) := by
  rw [show Finset.Ico b 4 = insert b (Finset.Ico (b + 1) 4) from by ext k; simp only [Finset.mem_insert, Finset.mem_Ico]; omega]
  exact bigSep_insert (by simp)

/-- One trip: pass t of both rings. -/
theorem trip (κ : GSem nD τ sig → ℕ) {defs : Defs nD τ sig (Elt F) Λ₀} (𝒱 : Variants) (c : Dev nD) (bd : Option 𝒱.V)
    (t : Fin k2_t1_loop.trips) (v2 v5 v7 : BitVec 32) :
    iprop(always X W κ c ∗ ringAt X W true c t.val ∗ ringAt X W false c t.val ∗ owing c (dues (3 * t.val) c))
      ⊢ wp frame (wpE defs 𝒱 (c : Thread nD τ) bd) Set.univ (onBufs (k2_t1_body (F := F)) c v2 v5 v7 t ())
          (fun _ => iprop(ringAt X W true c (t.val + 1) ∗ ringAt X W false c (t.val + 1) ∗ owing c (dues (3 * (t.val + 1)) c))) := by
  have ht := trip_lt t
  unfold onBufs k2_t1_body
  simp only [semSignalWord, semWaitWord, Prog.lift, Prog.bind_op, Prog.bind_ret, Prog.pure_eq_ret, Prog.bind_assoc]
  unfold always ringAt slotsAt ringRest
  rw [passes_take _ ht, passes_take _ ht]
  rw [show slotIn (F := F) true 0 c t.val = slotAt true 0 (nxt true c) t.val from if_pos ht, show slotIn (F := F) true 1 c t.val = slotAt true 1 (nxt true c) t.val from if_pos ht,
    show slotIn (F := F) false 0 c t.val = slotAt false 0 (nxt false c) t.val from if_pos ht, show slotIn (F := F) false 1 c t.val = slotAt false 1 (nxt false c) t.val from if_pos ht]
  unfold rights posS
  iintro ⟨⟨#Hr, #Hrc1, #Hrc2⟩, ⟨⟨Aa0, Aa1, Aa2⟩, Apc, ⟨⟨As0, #Ar0⟩, ⟨As1, #Ar1⟩, ⟨As2, #Ar2⟩⟩, ⟨Ap0, Ap1, Ap2⟩, ⟨Ax, Aw⟩, ⟨Ab0, Ab1⟩, Ag, ⟨Ao, Av⟩, Aout,
      ⟨⟨⟨Ah0, Ah1, Ah2⟩, ⟨At0, At1, At2⟩, ⟨Ac0, Ac1, Ac2⟩, ⟨Ai0, Ai1, Ai2⟩⟩, Arest⟩⟩,
    ⟨⟨Ba0, Ba1, Ba2⟩, Bpc, ⟨⟨Bs0, #Br0⟩, ⟨Bs1, #Br1⟩, ⟨Bs2, #Br2⟩⟩, ⟨Bp0, Bp1, Bp2⟩, ⟨Bx, Bw⟩, ⟨Bb0, Bb1⟩, Bg, ⟨Bo, Bv⟩, Bout,
      ⟨⟨⟨Bh0, Bh1, Bh2⟩, ⟨Bt0, Bt1, Bt2⟩, ⟨Bc0, Bc1, Bc2⟩, ⟨Bi0, Bi1, Bi2⟩⟩, Brest⟩⟩, HO⟩
  iapply (part1 X W κ 𝒱 c bd t (O := dues (3 * t.val) c) (above_dues c (by omega) (by unfold ixR; omega))) $$ [HO Ax Bx Aw Bw Ab0]
  · isplitr; · iexact Hr
    isplitl [HO]; · iexact HO
    isplitl [Ax]; · iexact Ax
    isplitl [Bx]; · iexact Bx
    isplitl [Aw]; · iexact Aw
    isplitl [Bw] <;> iassumption
  iintro ⟨HO, Ax, Bx, Aw, Bw, Ab0⟩
  ihave Aa2 := (give2 true c t.val) $$ Aa2
  icases Aa2 with ⟨Be0, Ak2⟩
  ihave Ba2 := (give2 false c t.val) $$ Ba2
  icases Ba2 with ⟨Ae0, Bk2⟩
  iapply (part2 X W κ 𝒱 c bd t) $$ [Ab0 Bb0 Bx Bw Aa0 Ae0 Ah0 Ai0 Bi0 Apc Bpc HO]
  · isplitr; · iexact Hr
    isplitl [Ab0 Bb0]
    · isplitl [Ab0]; · iexact Ab0
      iexact Bb0
    isplitl [Bx Bw]
    · isplitl [Bx]; · iexact Bx
      iexact Bw
    isplitl [Aa0 Ae0 Ah0]
    · isplitl [Aa0]; · iexact Aa0
      isplitl [Ae0]; · iexact Ae0
      isplitl [Ah0]; · iexact Ah0
      iexact Ar0
    isplitl [Ai0 Bi0 Apc Bpc]
    · isplitl [Ai0]; · iexact Ai0
      isplitl [Bi0]; · iexact Bi0
      isplitl [Apc]; · iexact Apc
      iexact Bpc
    iexact HO
  iintro %r2 ⟨Bb0, ⟨Bx, Bw⟩, Acs, ⟨Apc, Bpc⟩, HO⟩
  ihave Ax := (xHas_free X true c _) $$ Ax
  ihave Bx := (xHas_free X false c _) $$ Bx
  obtain ⟨r21, r22⟩ := r2
  iapply (part3 X W κ 𝒱 c bd t) $$ [Bb0 Ba0 Be0 Bh0 HO Ax Bx Aw Bw Ag Bg]
  · isplitr; · iexact Hr
    isplitl [Bb0]; · iexact Bb0
    isplitl [Ba0 Be0 Bh0]
    · isplitl [Ba0]; · iexact Ba0
      isplitl [Be0]; · iexact Be0
      isplitl [Bh0]; · iexact Bh0
      iexact Br0
    isplitl [HO]; · iexact HO
    isplitl [Ax Bx Aw Bw]
    · isplitl [Ax]; · iexact Ax
      isplitl [Bx]; · iexact Bx
      isplitl [Aw]; · iexact Aw
      iexact Bw
    isplitl [Ag]; · iexact Ag
    iexact Bg
  iintro %r3 ⟨Bcs, HO, ⟨Ax, Bx, Aw, Bw⟩, Ag, Bg⟩
  iapply (part4 X W κ 𝒱 c bd t) $$ [Bg Acs As0 Bcs Bs0 Ac0 Ap0 HO]
  · isplitr; · iexact Hr
    isplitl [Bg]; · iexact Bg
    isplitl [Acs As0]
    · isplitl [Acs]; · iexact Acs
      iexact As0
    isplitl [Bcs Bs0]
    · isplitl [Bcs]; · iexact Bcs
      iexact Bs0
    isplitl [Ac0 Ap0]
    · isplitl [Ac0]; · iexact Ac0
      iexact Ap0
    iexact HO
  iintro %r4 ⟨Bg, ⟨Ab0, As0⟩, ⟨Bb0, Bs0⟩, ⟨Asl0, Be, Ap0, #Arr0⟩, HO⟩
  ihave Ba2 := (get2 false c t.val) $$ [Be Bk2]
  · isplitl [Be]; · iexact Be
    iexact Bk2
  iapply (part5 X W κ 𝒱 c bd t) $$ [Bc0 Bp0 HO Ag Bg Asl0 Ab1 Bb1 At0]
  · isplitr; · iexact Hr
    isplitl [Bc0 Bp0]
    · isplitl [Bc0]; · iexact Bc0
      iexact Bp0
    isplitl [HO]; · iexact HO
    isplitl [Ag Bg]
    · isplitl [Ag]; · iexact Ag
      iexact Bg
    isplitl [Asl0]; · iexact Asl0
    isplitl [Ab1 Bb1]
    · isplitl [Ab1]; · iexact Ab1
      iexact Bb1
    isplitl [At0]; · iexact At0
    iexact Hrc1
  iintro ⟨⟨Bsl0, Ae, Bp0, #Brr0⟩, ⟨Ag, Bg⟩, Asl0, ⟨Ab1, Bb1⟩, HO⟩
  ihave Aa2 := (get2 true c t.val) $$ [Ae Ak2]
  · isplitl [Ae]; · iexact Ae
    iexact Ak2
  ihave Asl0 := (slot_back true 0 c t.val) $$ [Asl0]
  · isplitl [Asl0]; · iexact Asl0
    iexact Arr0
  ihave Asl0 := (give0 true c t.val) $$ Asl0
  icases Asl0 with ⟨Be, Ak0⟩
  ihave Bsl0 := (some_intro (c : Thread nD τ) (slot false 0)) $$ Bsl0
  ihave Bsl0 := (slot_back false 0 c t.val) $$ [Bsl0]
  · isplitl [Bsl0]; · iexact Bsl0
    iexact Brr0
  ihave Bsl0 := (give0 false c t.val) $$ Bsl0
  icases Bsl0 with ⟨Ae, Bk0⟩
  iapply (part6 X W κ 𝒱 c bd t) $$ [Bt0 HO Ai1 Bi1 Apc Bpc Ab1 Aa1 Ae Ah1]
  · isplitr; · iexact Hr
    isplitl [Bt0]
    · isplitl [Bt0]; · iexact Bt0
      iexact Hrc2
    isplitl [HO]; · iexact HO
    isplitl [Ai1 Bi1 Apc Bpc]
    · isplitl [Ai1]; · iexact Ai1
      isplitl [Bi1]; · iexact Bi1
      isplitl [Apc]; · iexact Apc
      iexact Bpc
    isplitl [Ab1]; · iexact Ab1
    isplitl [Aa1]; · iexact Aa1
    isplitl [Ae]; · iexact Ae
    isplitl [Ah1]; · iexact Ah1
    iexact Ar1
  iintro %r6 ⟨Acs, ⟨Apc, Bpc⟩, HO⟩
  ihave Ax := (xHas_free X true c _) $$ Ax
  ihave Bx := (xHas_free X false c _) $$ Bx
  obtain ⟨r61, r62⟩ := r6
  iapply (part7 X W κ 𝒱 c bd t) $$ [Bb1 Ba1 Be Bh1 HO Ax Bx Aw Bw Ag Bg]
  · isplitr; · iexact Hr
    isplitl [Bb1]; · iexact Bb1
    isplitl [Ba1 Be Bh1]
    · isplitl [Ba1]; · iexact Ba1
      isplitl [Be]; · iexact Be
      isplitl [Bh1]; · iexact Bh1
      iexact Br1
    isplitl [HO]; · iexact HO
    isplitl [Ax Bx Aw Bw]
    · isplitl [Ax]; · iexact Ax
      isplitl [Bx]; · iexact Bx
      isplitl [Aw]; · iexact Aw
      iexact Bw
    isplitl [Ag]; · iexact Ag
    iexact Bg
  iintro ⟨Bcs, HO, ⟨Ax, Bx, Aw, Bw⟩, Ag, Bg⟩
  iapply (part8 X W κ 𝒱 c bd t) $$ [Acs As1 Bcs Bs1 Ac1 Ap1 Bc1 Bp1 HO Ag]
  · isplitr; · iexact Hr
    isplitl [Acs As1]
    · isplitl [Acs]; · iexact Acs
      iexact As1
    isplitl [Bcs Bs1]
    · isplitl [Bcs]; · iexact Bcs
      iexact Bs1
    isplitl [Ac1 Ap1]
    · isplitl [Ac1]; · iexact Ac1
      iexact Ap1
    isplitl [Bc1 Bp1]
    · isplitl [Bc1]; · iexact Bc1
      iexact Bp1
    isplitl [HO]; · iexact HO
    iexact Ag
  iintro ⟨⟨Ab1, As1⟩, ⟨Bb1, Bs1⟩, ⟨Asl1, Be, Ap1, #Arr1⟩, ⟨Bsl1, Ae, Bp1, #Brr1⟩, HO, Ag⟩
  ihave Aa0 := (get0 true c ht) $$ [Ae Ak0]
  · isplitl [Ae]; · iexact Ae
    iexact Ak0
  ihave Ba0 := (get0 false c ht) $$ [Be Bk0]
  · isplitl [Be]; · iexact Be
    iexact Bk0
  iapply (part9 X W κ 𝒱 c bd t) $$ [HO Bg Asl1 Bsl1 Ab0 Bb0 At1 Bt1]
  · isplitr; · iexact Hr
    isplitl [HO]; · iexact HO
    isplitl [Bg]; · iexact Bg
    isplitl [Asl1 Bsl1]
    · isplitl [Asl1]; · iexact Asl1
      iexact Bsl1
    isplitl [Ab0 Bb0]
    · isplitl [Ab0]; · iexact Ab0
      iexact Bb0
    isplitl [At1]
    · isplitl [At1]; · iexact At1
      iexact Hrc1
    isplitl [Bt1]; · iexact Bt1
    iexact Hrc2
  iintro %w %w' ⟨HO, Bg, ⟨Asl1, Bsl1⟩, ⟨Ab0, Bb0⟩⟩
  ihave Asl1 := (slot_back true 1 c t.val) $$ [Asl1]
  · isplitl [Asl1]; · iexact Asl1
    iexact Arr1
  ihave Asl1 := (give1 true c t.val) $$ Asl1
  icases Asl1 with ⟨Be, Ak1⟩
  ihave Bsl1 := (slot_back false 1 c t.val) $$ [Bsl1]
  · isplitl [Bsl1]; · iexact Bsl1
    iexact Brr1
  ihave Bsl1 := (give1 false c t.val) $$ Bsl1
  icases Bsl1 with ⟨Ae, Bk1⟩
  ihave Ax := (xHas_free X true c _) $$ Ax
  ihave Bx := (xHas_free X false c _) $$ Bx
  iapply (part10 X W κ 𝒱 c bd t) $$ [HO Ai2 Bi2 Apc Bpc Ab0 Bb0 Aa2 Ae Ah2 Ba2 Be Bh2 Ax Bx]
  · isplitr; · iexact Hr
    isplitl [HO]; · iexact HO
    isplitl [Ai2 Bi2 Apc Bpc]
    · isplitl [Ai2]; · iexact Ai2
      isplitl [Bi2]; · iexact Bi2
      isplitl [Apc]; · iexact Apc
      iexact Bpc
    isplitl [Ab0 Bb0]
    · isplitl [Ab0]; · iexact Ab0
      iexact Bb0
    isplitl [Aa2 Ae Ah2]
    · isplitl [Aa2]; · iexact Aa2
      isplitl [Ae]; · iexact Ae
      isplitl [Ah2]; · iexact Ah2
      iexact Ar2
    isplitl [Ba2 Be Bh2]
    · isplitl [Ba2]; · iexact Ba2
      isplitl [Be]; · iexact Be
      isplitl [Bh2]; · iexact Bh2
      iexact Br2
    isplitl [Ax]; · iexact Ax
    iexact Bx
  iintro ⟨Acs, Bcs, ⟨Apc, Bpc⟩, HO, Ax, Bx⟩
  iapply (part11 X W κ 𝒱 c bd t) $$ [HO Ax Bx Aw Bw Ag Bg Acs As2]
  · isplitr; · iexact Hr
    isplitl [HO]; · iexact HO
    isplitl [Ax Bx]
    · isplitl [Ax]; · iexact Ax
      iexact Bx
    isplitl [Aw Bw]
    · isplitl [Aw]; · iexact Aw
      iexact Bw
    isplitl [Ag Bg]
    · isplitl [Ag]; · iexact Ag
      iexact Bg
    isplitl [Acs]; · iexact Acs
    iexact As2
  iintro ⟨HO, ⟨Ax, Bx⟩, ⟨Aw, Bw⟩, ⟨Ag, Bg⟩, ⟨Ab0, As2⟩⟩
  iapply (part12 X W κ 𝒱 c bd t) $$ [HO Ac2 Ap2 Bcs Bs2 Bc2 Bp2 Ag Bg]
  · isplitr; · iexact Hr
    isplitl [HO]; · iexact HO
    isplitl [Ac2 Ap2]
    · isplitl [Ac2]; · iexact Ac2
      iexact Ap2
    isplitl [Bcs Bs2]
    · isplitl [Bcs]; · iexact Bcs
      iexact Bs2
    isplitl [Bc2 Bp2]
    · isplitl [Bc2]; · iexact Bc2
      iexact Bp2
    isplitl [Ag]; · iexact Ag
    iexact Bg
  iintro ⟨HO, ⟨Asl2, Be, Ap2, #Arr2⟩, ⟨Bb0, Bs2⟩, ⟨Bsl2, Ae, Bp2, #Brr2⟩, ⟨Ag, Bg⟩⟩
  ihave Aa1 := (get1 true c ht) $$ [Ae Ak1]
  · isplitl [Ae]; · iexact Ae
    iexact Ak1
  ihave Ba1 := (get1 false c ht) $$ [Be Bk1]
  · isplitl [Be]; · iexact Be
    iexact Bk1
  ihave Asl2 := (some_intro (c : Thread nD τ) (slot true 2)) $$ Asl2
  ihave Asl2 := (slot_back true 2 c t.val) $$ [Asl2]
  · isplitl [Asl2]; · iexact Asl2
    iexact Arr2
  ihave Bsl2 := (some_intro (c : Thread nD τ) (slot false 2)) $$ Bsl2
  ihave Bsl2 := (slot_back false 2 c t.val) $$ [Bsl2]
  · isplitl [Bsl2]; · iexact Bsl2
    iexact Brr2
  iapply (wp_dall 𝒱 c bd (m := oB true) rfl) $$ Ao
  iintro Ao
  iapply (wp_sall 𝒱 c bd (m := oB true) rfl (w' := outV X W true t.val c) rfl) $$ Ao
  iintro Ao
  iapply (wp_dall 𝒱 c bd (m := oB false) rfl) $$ Bo
  iintro Bo
  iapply (wp_sall 𝒱 c bd (m := oB false) rfl (w' := outV X W false t.val c) rfl) $$ Bo
  iintro Bo
  iapply (wp_give X W κ 𝒱 c bd true (T := 3 * t.val + 2) (by omega) rfl (left_tc c _ (k2_dev13_eq c)) one_word
    (dues (3 * t.val + 3) c + dueC false (3 * t.val + 2) c)) $$ [At2 HO]
  · isplitr; · iexact Hr
    isplitl [At2]; · iexact At2
    isplitr; · iexact Hrc1
    iexact HO
  iintro HO
  iapply (wp_give X W κ 𝒱 c bd false (T := 3 * t.val + 2) (by omega) rfl (right_tc c _ (k2_dev14_eq c)) one_word
    (dues (3 * t.val + 3) c)) $$ [Bt2 HO]
  · isplitr; · iexact Hr
    isplitl [Bt2]; · iexact Bt2
    isplitr; · iexact Hrc2
    iexact HO
  iintro HO
  ihave Aout := (out_take X W true c ht) $$ Aout
  icases Aout with ⟨At, Aout⟩
  ihave Bout := (out_take X W false c ht) $$ Bout
  icases Bout with ⟨Bt, Bout⟩
  iapply (wp_ogo 𝒱 c bd true (colk true t.val) rfl (off1_at t) rfl rfl) $$ [Ao At Av]
  · isplitl [Ao]; · iexact Ao
    isplitl [At]; · iexact At
    iexact Av
  iintro Am
  iapply (wp_ogo 𝒱 c bd false (colk false t.val) rfl (off2_at t) rfl rfl) $$ [Bo Bt Bv]
  · isplitl [Bo]; · iexact Bo
    isplitl [Bt]; · iexact Bt
    iexact Bv
  iintro Bm
  have hO : Above 0 (dues (3 * t.val + 3) c) := above_dues c (by omega) (by unfold ixR; omega)
  iapply (wp_oin X W κ 𝒱 c bd true (colk true t.val) rfl (off1_at t) rfl (O := dues (3 * t.val + 3) c) hO) $$ [Am HO]
  · isplitr; · iexact Hr
    isplitl [Am]; · iexact Am
    iexact HO
  iintro ⟨⟨Ao, Av⟩, At, HO⟩
  ihave Aout := Aout $$ At
  iapply (wp_oin X W κ 𝒱 c bd false (colk false t.val) rfl (off2_at t) rfl (O := dues (3 * t.val + 3) c) hO) $$ [Bm HO]
  · isplitr; · iexact Hr
    isplitl [Bm]; · iexact Bm
    iexact HO
  iintro ⟨⟨Bo, Bv⟩, Bt, HO⟩
  ihave Bout := Bout $$ Bt
  ihave Ax := (xHas_free X true c _) $$ Ax
  ihave Bx := (xHas_free X false c _) $$ Bx
  ihave Aw := (wHas_free W true c _) $$ Aw
  ihave Bw := (wHas_free W false c _) $$ Bw
  ihave Asl2 := (slot2_next true c t.val) $$ Asl2
  ihave Bsl2 := (slot2_next false c t.val) $$ Bsl2
  rw [wp_ret]
  imodintro
  unfold posS
  -- what the rings hold before the next pass
  isplitl [Aa0 Aa1 Asl2 Apc As0 As1 As2 Ap0 Ap1 Ap2 Ax Aw Ab0 Ab1 Ag Ao Av Aout Arest]
  · isplitl [Aa0 Aa1 Asl2]
    · isplitl [Aa0]; · iexact Aa0
      isplitl [Aa1]; · iexact Aa1
      iexact Asl2
    isplitl [Apc]; · iexact Apc
    isplitl [As0 As1 As2]
    · isplitl [As0]; · iexact As0
      isplitl [As1]; · iexact As1
      iexact As2
    isplitl [Ap0 Ap1 Ap2]
    · isplitl [Ap0]; · iexact Ap0
      isplitl [Ap1]; · iexact Ap1
      iexact Ap2
    isplitl [Ax Aw]
    · isplitl [Ax]; · iexact Ax
      iexact Aw
    isplitl [Ab0 Ab1]
    · isplitl [Ab0]; · iexact Ab0
      iexact Ab1
    isplitl [Ag]; · iexact Ag
    isplitl [Ao Av]
    · isplitl [Ao]; · iexact Ao
      iexact Av
    isplitl [Aout]; · iexact Aout
    iexact Arest
  isplitl [Ba0 Ba1 Bsl2 Bpc Bs0 Bs1 Bs2 Bp0 Bp1 Bp2 Bx Bw Bb0 Bb1 Bg Bo Bv Bout Brest]
  · isplitl [Ba0 Ba1 Bsl2]
    · isplitl [Ba0]; · iexact Ba0
      isplitl [Ba1]; · iexact Ba1
      iexact Bsl2
    isplitl [Bpc]; · iexact Bpc
    isplitl [Bs0 Bs1 Bs2]
    · isplitl [Bs0]; · iexact Bs0
      isplitl [Bs1]; · iexact Bs1
      iexact Bs2
    isplitl [Bp0 Bp1 Bp2]
    · isplitl [Bp0]; · iexact Bp0
      isplitl [Bp1]; · iexact Bp1
      iexact Bp2
    isplitl [Bx Bw]
    · isplitl [Bx]; · iexact Bx
      iexact Bw
    isplitl [Bb0 Bb1]
    · isplitl [Bb0]; · iexact Bb0
      iexact Bb1
    isplitl [Bg]; · iexact Bg
    isplitl [Bo Bv]
    · isplitl [Bo]; · iexact Bo
      iexact Bv
    isplitl [Bout]; · iexact Bout
    iexact Brest
  iexact HO

end Cert.KernelIdeal
-- ==== Proof.IdealBody.lean ====
/-
  The ring kernel's body on a device: the barrier, the four passes, the last credits.
-/
module

public import proofs.«01_k».proof.Proof.IdealTrip

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

local notation "𝕄" => MT nD τ sig ℕ (Elt F) ℕ UU ℕ

variable (X : Dev nD → S8192x2048.Idx → Elt F .bf16) (W : Dev nD → S2048x4096.Idx → Elt F .bf16)

/-! ## The barrier -/

/-- What device c owes at the barrier: a unit to the device after it and one to the device before it. -/
abbrev dueB (δ : Bool) (c : Dev nD) : CellTallies nD τ sig ℕ := tallyAt (cellB (nxt δ c)) 1 1

/-- The barrier's unit to the device before c (ring true) or after c (ring false): it hands over c's slots of the ring. -/
theorem wp_bar (κ : GSem nD τ sig → ℕ) {defs : Defs nD τ sig (Elt F) Λ₀} (𝒱 : Variants) (c : Dev nD) (bd : Option 𝒱.V)
    {α : Type} {Q : α → sProp 𝕄} (δ : Bool) {d : ℕ} (hd : decide (d = 0) = δ) (hd' : d = 0 ∨ d = 1) {s : Sem sig} {t : Thread nD τ} {w : ℤ}
    (hs : s = sB) (ht : t = (nxt (!δ) c : Thread nD τ)) (hw : w = ((1 : ℕ) : ℤ))
    {k : PUnit → Prog (TpuEff nD τ sig (Elt F) Λ₀ .tc) α} (O : CellTallies nD τ sig ℕ) :
    iprop(recs X W κ ∗ dutyTok ER (cellB (nxt (!δ) c)) 0 d ∗ reached ER (cellB (nxt (!δ) c)) 0
        ∗ (slotAt δ 0 c 0 ∗ slotAt δ 1 c 0 ∗ slotAt δ 2 c 0) ∗ reached ER (cellC (!δ) c) 0 ∗ owing c (O + dueB (!δ) c))
      ⊢ iprop((owing c O -∗ wp frame (wpE defs 𝒱 (c : Thread nD τ) bd) Set.univ (k ⟨⟩) Q)
          -∗ wp frame (wpE defs 𝒱 (c : Thread nD τ) bd) Set.univ (.op (.semSignal t s w) k) Q) := by
  subst hs ht hw
  unfold owing
  iintro ⟨#Hr, Ht, #Hrb, Hs, #Hrc, ⟨%Wd, HO⟩⟩ Hk
  ihave #Hi1 := (recs_inv X W κ (mem_B (nxt (!δ) c))) $$ Hr
  iapply (wp_signal 𝒱 ER (Rd X W) (c : Thread nD τ) bd (dst := (nxt (!δ) c : Thread nD τ)) (sem := sB) (r := 0) (d := d) (k' := 1)
      (κ := κ (cellB (nxt (!δ) c)))
      (by rw [show (Rd X W).duties ((nxt (!δ) c : Thread nD τ), .reg sB) 0 = {0, 1} from duties_B X W _]
          rcases hd' with h | h <;> simp [h])
      rfl 1 (O₀ := O + dueB (!δ) c) O rfl (W := Wd)) $$ [Ht Hs HO]
  · isplitr; · iexact Hi1
    isplitl [HO]; · iexact HO
    isplitl [Ht]; · iexact Ht
    isplitl [Hs]
    · rw [show (Rd X W).payload ((nxt (!δ) c : Thread nD τ), .reg sB) 0 d = barPay (decide (d = 0)) (nxt (!δ) c) from payload_B X W _ _ _, hd]
      unfold barPay
      rw [nxt_nxt]
      isplitl [Hs]; · iexact Hs
      iexact Hrc
    iexact Hrb
  iintro HO
  iapply Hk
  iexists Wd; iexact HO

/-- The barrier's wait: both neighbours have signalled; their slots are c's to write. -/
theorem wp_bar_wait (κ : GSem nD τ sig → ℕ) {defs : Defs nD τ sig (Elt F) Λ₀} (𝒱 : Variants) (c : Dev nD) (bd : Option 𝒱.V)
    {α : Type} {Q : α → sProp 𝕄} {s : Sem sig} {w : ℤ} (hs : s = sB) (hw : w = ((2 : ℕ) : ℤ))
    {k : PUnit → Prog (TpuEff nD τ sig (Elt F) Λ₀ .tc) α} {O : CellTallies nD τ sig ℕ} (hO : Above 1 O) :
    iprop(recs X W κ ∗ cred (tallyAt (cellB c) 1 2) ∗ atPos ER (cellB c) 0 ∅ 0 ∗ owing c O)
      ⊢ iprop(((barPay true c ∗ barPay false c ∗ atPos ER (cellB c) 1 ∅ 0 ∗ owing c O) -∗ wp frame (wpE defs 𝒱 (c : Thread nD τ) bd) Set.univ (k ⟨⟩) Q)
          -∗ wp frame (wpE defs 𝒱 (c : Thread nD τ) bd) Set.univ (.op (.semWait s w) k) Q) := by
  subst hs hw
  unfold owing
  iintro ⟨#Hr, Hc, Hat, ⟨%Wd, HO⟩⟩ Hk
  ihave #Hi1 := (recs_inv X W κ (mem_B c)) $$ Hr
  ihave Hmw := (recs_mayWait X W κ hO (by decide) c (.reg sB)) $$ Hr
  iapply (wp_wait_rest_token 𝒱 ER (Rd X W) (c : Thread nD τ) bd (κ := κ (cellB c)) (sm := .reg sB) (k' := 2)
      (wpE_semWait_eq 𝒱 (c : Thread nD τ) bd Set.univ) (Set.mem_univ _) 1 (O := O) (W := Wd) (R := 0) (m := 0) (T := ∅)
      (by rw [expect_B X W c])) $$ [Hc Hat HO Hmw]
  · isplitr; · iexact Hi1
    isplitl [Hc]; · iexact Hc
    isplitl [HO]; · iexact HO
    isplitl [Hmw] <;> iassumption
  rw [duties_B X W c, Finset.sdiff_empty, bigSep_insert (by decide), bigSep_singleton, payload_B, payload_B, decide_eq_true rfl, decide_eq_false Nat.one_ne_zero]
  iintro ⟨HO, Hat, -, Hpq⟩
  ihave Hpq := (show _ ⊢ iprop(barPay (F := F) true c ∗ barPay false c) from .rfl) $$ Hpq
  icases Hpq with ⟨Hp, Hq⟩
  iapply Hk
  isplitl [Hp]; · iexact Hp
  isplitl [Hq]; · iexact Hq
  isplitl [Hat]; · iexact Hat
  iexists _; iexact HO

/-! ## The body -/

/-- What a device holds before its body. -/
def bodyPre (κ : GSem nD τ sig → ℕ) (c : Dev nD) : sProp 𝕄 :=
  iprop(recs X W κ
    ∗ ((dutyTok ER (cellB (nxt false c)) 0 0 ∗ reached ER (cellB (nxt false c)) 0) ∗ (dutyTok ER (cellB (nxt true c)) 0 1 ∗ reached ER (cellB (nxt true c)) 0)
      ∗ cred (tallyAt (cellB c) 1 2) ∗ atPos ER (cellB c) 0 ∅ 0)
    ∗ ((slotAt true 0 c 0 ∗ slotAt true 1 c 0 ∗ slotAt true 2 c 0) ∗ (slotAt false 0 c 0 ∗ slotAt false 1 c 0 ∗ slotAt false 2 c 0))
    ∗ (reached ER (cellC true c) 0 ∗ reached ER (cellC false c) 0)
    ∗ (atPos ER (cellC true c) 0 ∅ 0 ∗ atPos ER (cellC false c) 0 ∅ 0)
    ∗ (ringRest X W true c 0 ∗ ringRest X W false c 0)
    ∗ (cred (tallyAt (cellC true c) 40 3) ∗ cred (tallyAt (cellC false c) 40 3))
    ∗ owing c (dues 0 c + dueB true c + dueB false c))
/-- What it holds after. -/
def bodyPost (c : Dev nD) : sProp 𝕄 :=
  iprop(atPos ER (cellB c) 1 ∅ 0 ∗ (slotsAt true c 4 ∗ slotsAt false c 4) ∗ (atPos ER (cellC true c) 1 ∅ 0 ∗ atPos ER (cellC false c) 1 ∅ 0)
    ∗ (ringRest X W true c 4 ∗ ringRest X W false c 4) ∗ owing c 0)

theorem slots_start (δ : Bool) (c : Dev nD) :
    iprop(slotAt δ 0 (nxt δ c) 0 ∗ slotAt δ 1 (nxt δ c) 0 ∗ slotAt δ 2 (nxt δ c) 0) ⊢ slotsAt (F := F) δ c 0 := by
  unfold slotsAt slotIn slot2
  rw [if_pos (by decide), if_pos (by decide), if_pos rfl]

/-- The body of the ring kernel on device c. -/
theorem body (κ : GSem nD τ sig → ℕ) {defs : Defs nD τ sig (Elt F) Λ₀} (𝒱 : Variants) (c : Dev nD) (bd : Option 𝒱.V) :
    bodyPre X W κ c ⊢ wp frame (wpE defs 𝒱 (c : Thread nD τ) bd) Set.univ (onBufs (cc2_body (F := F))) (fun _ => bodyPost X W c) := by
  unfold onBufs
  rw [cc2_body_eq_skeleton]
  unfold cc2_body_skel
  simp only [semSignalWord, semWaitWord, Prog.lift, Prog.bind_op, Prog.bind_ret, Prog.pure_eq_ret, Prog.bind_assoc, wp_deviceId]
  unfold bodyPre
  iintro ⟨#Hr, ⟨⟨Hd0, #Hb0⟩, ⟨Hd1, #Hb1⟩, Hc, Hat⟩, ⟨Hsa, Hsb⟩, ⟨#Hca, #Hcb⟩, ⟨Hpa, Hpb⟩, ⟨Hra, Hrb⟩, ⟨Hla, Hlb⟩, HO⟩
  iapply (wp_bar X W κ 𝒱 c bd true (d := 0) rfl (.inl rfl) rfl (left_tc c _ (k2_dev1_eq c)) one_word (dues 0 c + dueB true c)) $$ [Hd0 Hsa HO]
  · isplitr; · iexact Hr
    isplitl [Hd0]; · iexact Hd0
    isplitr; · iexact Hb0
    isplitl [Hsa]; · iexact Hsa
    isplitr; · iexact Hcb
    iexact HO
  iintro HO
  iapply (wp_bar X W κ 𝒱 c bd false (d := 1) rfl (.inr rfl) rfl (right_tc c _ (k2_dev2_eq c)) one_word (dues 0 c)) $$ [Hd1 Hsb HO]
  · isplitr; · iexact Hr
    isplitl [Hd1]; · iexact Hd1
    isplitr; · iexact Hb1
    isplitl [Hsb]; · iexact Hsb
    isplitr; · iexact Hca
    iexact HO
  iintro HO
  iapply (wp_bar_wait X W κ 𝒱 c bd rfl (by decide) (O := dues 0 c) (above_dues c (by omega) (by unfold ixR; omega))) $$ [Hc Hat HO]
  · isplitr; · iexact Hr
    isplitl [Hc]; · iexact Hc
    isplitl [Hat]; · iexact Hat
    iexact HO
  iintro ⟨Hsa, Hsb, Hat, HO⟩
  unfold barPay
  icases Hsa with ⟨Hsa, #Hfa⟩
  icases Hsb with ⟨Hsb, #Hfb⟩
  ihave Hsa := (slots_start true c) $$ Hsa
  ihave Hsb := (slots_start false c) $$ Hsb
  iapply (Scf.wp_for_bind (M := 𝕄) frame (wpE defs 𝒱 (c : Thread nD τ) bd) Set.univ _ _ _ k2_t1_ok _ _
    (fun b _ => iprop(always X W κ c ∗ ringAt X W true c b ∗ ringAt X W false c b ∗ owing c (dues (3 * b) c))) ?_) $$ [Hsa Hsb Hpa Hpb Hra Hrb HO]
  · intro t _
    iintro ⟨#Ha, H⟩
    iapply (wp_wand_r frame (wpE defs 𝒱 (c : Thread nD τ) bd) Set.univ)
    isplitl [H]
    · iapply (trip X W κ 𝒱 c bd t)
      isplitr; · iexact Ha
      iexact H
    iintro %_ H
    isplitr; · iexact Ha
    iexact H
  · unfold always ringAt posC
    isplitr
    · isplitr; · iexact Hr
      isplitr; · iexact Hfb
      iexact Hfa
    isplitl [Hsa Hpa Hra]
    · isplitl [Hsa]; · iexact Hsa
      isplitl [Hpa]; · iexists _; iexact Hpa
      iexact Hra
    isplitl [Hsb Hpb Hrb]
    · isplitl [Hsb]; · iexact Hsb
      isplitl [Hpb]; · iexists _; iexact Hpb
      iexact Hrb
    iexact HO
  iintro %_ H
  rw [show Scf.trips k2_t1_loop.lb k2_t1_loop.ub k2_t1_loop.st = 4 from rfl]
  unfold ringAt
  icases H with ⟨-, ⟨Hsa, Hpa, Hra⟩, ⟨Hsb, Hpb, Hrb⟩, HO⟩
  iapply (wp_take_last X W κ 𝒱 c bd true rfl (by decide)) $$ [Hla Hpa HO]
  · isplitr; · iexact Hr
    isplitl [Hla]; · iexact Hla
    isplitl [Hpa]; · iexact Hpa
    iexact HO
  iintro ⟨Hpa, HO⟩
  iapply (wp_take_last X W κ 𝒱 c bd false rfl (by decide)) $$ [Hlb Hpb HO]
  · isplitr; · iexact Hr
    isplitl [Hlb]; · iexact Hlb
    isplitl [Hpb]; · iexact Hpb
    iexact HO
  iintro ⟨Hpb, HO⟩
  rw [wp_ret]
  imodintro
  unfold bodyPost
  isplitl [Hat]; · iexact Hat
  isplitl [Hsa Hsb]; · isplitl [Hsa] <;> iassumption
  isplitl [Hpa Hpb]; · isplitl [Hpa] <;> iassumption
  isplitl [Hra Hrb]; · isplitl [Hra] <;> iassumption
  iexact HO

end Cert.KernelIdeal
-- ==== Proof.IdealFund.lean ====
/-
  What the launch deals the devices: the credit of what is owed to them, the rights (duty tokens) to what they pay,
  and the right to open their own cells.
-/
module

public import proofs.«01_k».proof.Proof.IdealBody

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

local notation "𝕄" => MT nD τ sig ℕ (Elt F) ℕ UU ℕ

/-! ## The credit -/

/-- What device c owes when the program starts. -/
abbrev dues₀ (c : Dev nD) : CellTallies nD τ sig ℕ := dues 0 c + dueB true c + dueB false c
/-- What is owed to device c: the landings in its slots, its credits, its barrier's two units. -/
def owedTo (c : Dev nD) : CellTallies nD τ sig ℕ :=
  (∑ T ∈ Finset.range 12, (tallyAt (cellC false c) (ixC T) 1 + tallyAt (cellC true c) (ixC T) 1
      + tallyAt (cellR false (fin3 T) c) (ixR T) N + tallyAt (cellR true (fin3 T) c) (ixR T) N))
    + tallyAt (cellB c) 1 1 + tallyAt (cellB c) 1 1

theorem dues_sum (c : Dev nD) :
    dues 0 c = ∑ T ∈ Finset.range 12, (dueC false T c + dueC true T c + dueR false T c + dueR true T c) := by
  have h : ∀ n, duesN c n = ∑ T ∈ Finset.range n,
      (dueC false (11 - T) c + dueC true (11 - T) c + dueR false (11 - T) c + dueR true (11 - T) c) := by
    intro n
    induction n with
    | zero => rfl
    | succ n ih => rw [duesN, Finset.sum_range_succ, ← ih, add_assoc, add_assoc, add_assoc, add_assoc, add_assoc]
  rw [dues, h]
  exact Finset.sum_nbij' (fun T => 11 - T) (fun T => 11 - T)
    (fun T h => by rw [Finset.mem_range] at h ⊢; omega) (fun T h => by rw [Finset.mem_range] at h ⊢; omega)
    (fun T h => by rw [Finset.mem_range] at h; omega) (fun T h => by rw [Finset.mem_range] at h; omega) (fun T _ => rfl)

/-- A ring's step as a permutation of the devices. -/
def nxtE (δ : Bool) : Dev nD ≃ Dev nD where
  toFun := nxt δ
  invFun := nxt (!δ)
  left_inv := nxt_nxt' δ
  right_inv := nxt_nxt δ
theorem sum_nxt (δ : Bool) (f : Dev nD → CellTallies nD τ sig ℕ) : (∑ d, f (nxt δ d)) = ∑ d, f d := Equiv.sum_comp (nxtE δ) f

/-- All that is owed is owed to somebody. -/
theorem sum_dues₀ : (∑ d : Dev nD, dues₀ d) = ∑ d : Dev nD, owedTo d := by
  unfold dues₀ owedTo dueB
  simp only [dues_sum, Finset.sum_add_distrib]
  rw [sum_nxt true fun d => tallyAt (cellB d) 1 1, sum_nxt false fun d => tallyAt (cellB d) 1 1]
  congr 1; congr 1
  have h (f g : Dev nD → ℕ → CellTallies nD τ sig ℕ) (e : ∀ T, (∑ d, f d T) = ∑ d, g d T) :
      (∑ d : Dev nD, ∑ T ∈ Finset.range 12, f d T) = ∑ d : Dev nD, ∑ T ∈ Finset.range 12, g d T := by
    rw [Finset.sum_comm, Finset.sum_congr rfl fun T _ => e T, Finset.sum_comm]
  refine congrArg₂ _ (congrArg₂ _ (congrArg₂ _ ?_ ?_) ?_) ?_
  · exact h _ _ fun T => sum_nxt true fun d => tallyAt (cellC false d) (ixC T) 1
  · exact h _ _ fun T => sum_nxt false fun d => tallyAt (cellC true d) (ixC T) 1
  · exact h _ _ fun T => sum_nxt false fun d => tallyAt (cellR false (fin3 T) d) (ixR T) N
  · exact h _ _ fun T => sum_nxt true fun d => tallyAt (cellR true (fin3 T) d) (ixR T) N

/-- A tally on device c's cells alone. -/
def OnDev (c : Dev nD) (O : CellTallies nD τ sig ℕ) : Prop := ∀ g, g.1 ≠ (c.tc : Thread nD τ) → O g = 0
theorem onDev_add {c : Dev nD} {O O' : CellTallies nD τ sig ℕ} (h : OnDev c O) (h' : OnDev c O') : OnDev c (O + O') := fun g hg => by
  rw [Pi.add_apply, h g hg, h' g hg, add_zero]
theorem onDev_tally (c : Dev nD) (s : SemLoc sig) (i n : ℕ) : OnDev c (tallyAt ((c : Thread nD τ), s) i n) := fun g hg =>
  tallyAt_ne_cell (fun e => hg (by rw [e])) i n
theorem onDev_sum {c : Dev nD} (s : Finset ℕ) (f : ℕ → CellTallies nD τ sig ℕ) (h : ∀ T, OnDev c (f T)) : OnDev c (∑ T ∈ s, f T) := fun g hg => by
  rw [Finset.sum_apply]; exact Finset.sum_eq_zero fun T _ => h T g hg
theorem owedTo_onDev (c : Dev nD) : OnDev c (owedTo c) := by
  unfold owedTo
  refine onDev_add (onDev_add (onDev_sum _ _ fun T => ?_) (onDev_tally c _ 1 1)) (onDev_tally c _ 1 1)
  exact onDev_add (onDev_add (onDev_add (onDev_tally c _ _ _) (onDev_tally c _ _ _)) (onDev_tally c _ _ _)) (onDev_tally c _ _ _)

theorem cred_plus (a b : CellTallies nD τ sig ℕ) : (cred (a + b) : sProp 𝕄) = iprop(cred a ∗ cred b) :=
  BI.Entails.antisymm (cred_add a b).1 (cred_add a b).2

/-- A ring's credits on device c, hop by hop. -/
def ringCred (δ : Bool) (c : Dev nD) : sProp 𝕄 :=
  iprop((bigSep (Finset.range 12) fun T => cred (tallyAt (cellC δ c) (ixC T) 1))
    ∗ bigSep (Finset.range 12) fun T => cred (tallyAt (cellR δ (fin3 T) c) (ixR T) N))
/-- The launch's credit on device c. -/
theorem creds (c : Dev nD) :
    (Pipeline.launchCred dues₀ c : sProp 𝕄) ⊢ iprop(cred (tallyAt (cellB c) 1 2) ∗ ringCred true c ∗ ringCred false c) := by
  rw [Pipeline.launchCred_of_sum dues₀ owedTo sum_dues₀ (fun d g hg => by
    by_contra h; exact hg (owedTo_onDev d g h)) c]
  unfold owedTo ringCred
  rw [add_assoc, tallyAt_add, cred_plus]
  simp only [Finset.sum_add_distrib]
  rw [cred_plus, cred_plus, cred_plus, Pipeline.cred_finsetSum, Pipeline.cred_finsetSum, Pipeline.cred_finsetSum, Pipeline.cred_finsetSum]
  iintro ⟨⟨⟨⟨Hc0, Hc1⟩, Hr0⟩, Hr1⟩, Hb⟩
  isplitl [Hb]; · iexact Hb
  isplitl [Hc1 Hr1]
  · isplitl [Hc1] <;> iassumption
  isplitl [Hc0] <;> iassumption

/-! ## Passes and hops -/

theorem over4 (Φ : ℕ → sProp 𝕄) : bigSep (Finset.Ico 0 4) Φ = iprop(Φ 0 ∗ Φ 1 ∗ Φ 2 ∗ Φ 3) :=
  bigSep_eq_bigSepL_of_eq [0, 1, 2, 3] (by decide) (by decide) Φ
theorem overFin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem over2 (Φ : Bool → sProp 𝕄) : bigSep Finset.univ Φ = iprop(Φ true ∗ Φ false) :=
  bigSep_univ_eq_bigSepL [true, false] (by decide) (by decide) Φ
theorem over12 (Φ : ℕ → sProp 𝕄) :
    bigSep (Finset.range 12) Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_eq_bigSepL_of_eq [0, 1, 2, 3, 4, 5, 6, 7, 8, 9, 10, 11] (by decide) (by decide) Φ

/-- Twelve hops are four passes of three. -/
theorem by_pass (Φ : ℕ → sProp 𝕄) :
    bigSep (Finset.range 12) Φ ⊢ bigSep (Finset.Ico 0 4) fun b => iprop(Φ (3 * b) ∗ Φ (3 * b + 1) ∗ Φ (3 * b + 2)) := by
  rw [over4, over12]
  iintro ⟨H0, H1, H2, H3, H4, H5, H6, H7, H8, H9, H10, H11⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6 H7 H8]
  · isplitl [H6]; · iexact H6
    isplitl [H7]; · iexact H7
    iexact H8
  isplitl [H9]; · iexact H9
  isplitl [H10]; · iexact H10
  iexact H11

theorem credIn_intro (δ : Bool) (c : Dev nD) (T : ℕ) : (cred (tallyAt (cellC δ c) (ixC T) 1) : sProp 𝕄) ⊢ credIn δ c (T + 3) := by
  unfold credIn; rw [if_neg (by omega), Nat.add_sub_cancel]
/-- A ring's credit units: those a hop waits for, with the hop, and the last three together. -/
theorem cred_by_pass (δ : Bool) (c : Dev nD) :
    (bigSep (Finset.range 12) fun T => cred (tallyAt (cellC δ c) (ixC T) 1))
      ⊢ iprop((bigSep (Finset.Ico 0 4) fun b => iprop(credIn (F := F) δ c (3 * b) ∗ credIn δ c (3 * b + 1) ∗ credIn δ c (3 * b + 2)))
        ∗ cred (tallyAt (cellC δ c) 40 3)) := by
  rw [over4, over12, show (tallyAt (cellC δ c) 40 3 : CellTallies nD τ sig ℕ)
    = tallyAt (cellC δ c) (ixC 9) 1 + (tallyAt (cellC δ c) (ixC 10) 1 + tallyAt (cellC δ c) (ixC 11) 1) from by
      rw [show ixC 9 = 40 from rfl, show ixC 10 = 40 from rfl, show ixC 11 = 40 from rfl, tallyAt_add, tallyAt_add], cred_plus, cred_plus]
  iintro ⟨H0, H1, H2, H3, H4, H5, H6, H7, H8, H9, H10, H11⟩
  isplitr [H9 H10 H11]
  · isplitr
    · isplitr; · iempintro
      isplitr; · iempintro
      iempintro
    isplitl [H0 H1 H2]
    · isplitl [H0]; · iapply (show _ ⊢ credIn δ c (3 * 1) from credIn_intro δ c 0); iexact H0
      isplitl [H1]; · iapply (show _ ⊢ credIn δ c (3 * 1 + 1) from credIn_intro δ c 1); iexact H1
      iapply (show _ ⊢ credIn δ c (3 * 1 + 2) from credIn_intro δ c 2); iexact H2
    isplitl [H3 H4 H5]
    · isplitl [H3]; · iapply (show _ ⊢ credIn δ c (3 * 2) from credIn_intro δ c 3); iexact H3
      isplitl [H4]; · iapply (show _ ⊢ credIn δ c (3 * 2 + 1) from credIn_intro δ c 4); iexact H4
      iapply (show _ ⊢ credIn δ c (3 * 2 + 2) from credIn_intro δ c 5); iexact H5
    isplitl [H6]; · iapply (show _ ⊢ credIn δ c (3 * 3) from credIn_intro δ c 6); iexact H6
    isplitl [H7]; · iapply (show _ ⊢ credIn δ c (3 * 3 + 1) from credIn_intro δ c 7); iexact H7
    iapply (show _ ⊢ credIn δ c (3 * 3 + 2) from credIn_intro δ c 8); iexact H8
  isplitl [H9]; · iexact H9
  isplitl [H10] <;> iassumption

/-! ## The duties' tokens -/

/-- A device's payments: its signal of each neighbour's barrier; in ring δ, pass b: the sources' and the landings of its
    three transfers, and three credits. -/
abbrev PayIx : Type := Bool ⊕ (Bool × (Fin 4 × Fin 9))
/-- To whom, on which semaphore, in which round, which duty. -/
def payTo (c : Dev nD) : PayIx → Dev nD
  | .inl δ => nxt δ c
  | .inr (δ, _, k) => if k.val < 3 then c else if k.val < 6 then nxt δ c else nxt (!δ) c
def payOn : PayIx → SemLoc sig
  | .inl _ => .reg sB
  | .inr (δ, _, k) => (![.dma (sS δ 0), .dma (sS δ 1), .dma (sS δ 2), .dma (sR δ 0), .dma (sR δ 1), .dma (sR δ 2),
      .reg (sC δ), .reg (sC δ), .reg (sC δ)] : Fin 9 → SemLoc sig) k
def payNo : PayIx → ℕ × ℕ
  | .inl δ => (0, if δ then 1 else 0)
  | .inr (_, b, k) => if k.val < 6 then (b.val, 0) else (0, 3 * b.val + (k.val - 6))
theorem pay_inj : Function.Injective fun i : PayIx => (payOn i, payNo i) := by decide +kernel
theorem nxt_inj (δ : Bool) : Function.Injective (nxt δ) := (nxtE δ).injective
theorem payTo_inj (i : PayIx) : Function.Injective fun c => payTo c i := by
  rcases i with δ | ⟨δ, b, k⟩
  · exact nxt_inj δ
  · intro c c' h
    have h' : (if k.val < 3 then c else if k.val < 6 then nxt δ c else nxt (!δ) c) = if k.val < 3 then c' else if k.val < 6 then nxt δ c' else nxt (!δ) c' := h
    split at h'
    · exact h'
    · split at h'
      · exact nxt_inj _ h'
      · exact nxt_inj _ h'
def payEmb : Dev nD × PayIx ↪ GSem nD τ sig × ℕ × ℕ :=
  ⟨fun p => (((payTo p.1 p.2 : Thread nD τ), payOn p.2), payNo p.2), by
    rintro ⟨c, i⟩ ⟨c', i'⟩ h
    have h : (((payTo c i : Thread nD τ), payOn i), payNo i) = (((payTo c' i' : Thread nD τ), payOn i'), payNo i') := h
    have hi : i = i' := pay_inj (show (payOn i, payNo i) = (payOn i', payNo i') from
      Prod.ext (congrArg (fun t : GSem nD τ sig × ℕ × ℕ => t.1.2) h) (congrArg (fun t : GSem nD τ sig × ℕ × ℕ => t.2) h))
    subst hi
    exact Prod.ext (payTo_inj i (congrArg (fun t : GSem nD τ sig × ℕ × ℕ => t.1.1.1) h)) rfl⟩
/-- All duties' tokens. -/
abbrev toks : Finset (GSem nD τ sig × ℕ × ℕ) := Finset.univ.map payEmb

/-- A ring's tokens of pass b. -/
def passTok (δ : Bool) (c : Dev nD) (b : ℕ) : sProp 𝕄 :=
  iprop((hopTok δ 0 c b ∗ hopTok δ 1 c b ∗ hopTok δ 2 c b)
    ∗ (dutyTok ER (cellC δ (nxt (!δ) c)) 0 (3 * b) ∗ dutyTok ER (cellC δ (nxt (!δ) c)) 0 (3 * b + 1) ∗ dutyTok ER (cellC δ (nxt (!δ) c)) 0 (3 * b + 2)))
/-- The barrier's tokens device c pays. -/
def barTok (c : Dev nD) : sProp 𝕄 := iprop(dutyTok ER (cellB (nxt false c)) 0 0 ∗ dutyTok ER (cellB (nxt true c)) 0 1)

theorem passTok_intro (δ : Bool) (c : Dev nD) (b : Fin 4) :
    (bigSep Finset.univ fun k : Fin 9 => (dutyTok ER (payEmb (c, .inr (δ, b, k))).1 (payEmb (c, .inr (δ, b, k))).2.1 (payEmb (c, .inr (δ, b, k))).2.2 : sProp 𝕄))
      ⊢ passTok δ c b.val := by
  rw [bigSep_univ_eq_bigSepL [0, 1, 2, 3, 4, 5, 6, 7, 8] (by decide) (by decide)]
  show iprop(dutyTok ER (cellS δ 0 c) b.val 0 ∗ dutyTok ER (cellS δ 1 c) b.val 0 ∗ dutyTok ER (cellS δ 2 c) b.val 0
    ∗ dutyTok ER (cellR δ 0 (nxt δ c)) b.val 0 ∗ dutyTok ER (cellR δ 1 (nxt δ c)) b.val 0 ∗ dutyTok ER (cellR δ 2 (nxt δ c)) b.val 0
    ∗ dutyTok ER (cellC δ (nxt (!δ) c)) 0 (3 * b.val + 0) ∗ dutyTok ER (cellC δ (nxt (!δ) c)) 0 (3 * b.val + 1) ∗ dutyTok ER (cellC δ (nxt (!δ) c)) 0 (3 * b.val + 2)) ⊢ _
  unfold passTok hopTok
  iintro ⟨S0, S1, S2, R0, R1, R2, C0, C1, C2⟩
  isplitr [C0 C1 C2]
  · isplitl [S0 R0]
    · isplitl [S0] <;> iassumption
    isplitl [S1 R1]
    · isplitl [S1] <;> iassumption
    isplitl [S2] <;> iassumption
  isplitl [C0]; · iexact C0
  isplitl [C1] <;> iassumption

theorem overSum {α β : Type} [Fintype α] [Fintype β] [DecidableEq α] [DecidableEq β] (Φ : α ⊕ β → sProp 𝕄) :
    bigSep Finset.univ Φ = iprop((bigSep Finset.univ fun a => Φ (.inl a)) ∗ bigSep Finset.univ fun b => Φ (.inr b)) := by
  rw [bigSep_univ_sum]; rfl
/-- Device by device, the tokens of what the device pays. -/
theorem toks_deal :
    (bigSep toks fun x => (dutyTok ER x.1 x.2.1 x.2.2 : sProp 𝕄))
      ⊢ bigSep Finset.univ fun c : Dev nD => iprop(barTok c ∗ (bigSep (Finset.Ico 0 4) (passTok true c)) ∗ bigSep (Finset.Ico 0 4) (passTok false c)) := by
  rw [bigSep_map, bigSep_univ_prod]
  refine bigSep_mono fun c _ => ?_
  rw [overSum, over2]
  rw [bigSep_univ_prod, over2, bigSep_univ_prod, bigSep_univ_prod, overFin4, overFin4, over4, over4]
  show (_ : sProp 𝕄) ⊢ _
  unfold barTok
  iintro ⟨⟨Hb1, Hb0⟩, ⟨A0, A1, A2, A3⟩, ⟨B0, B1, B2, B3⟩⟩
  isplitl [Hb0 Hb1]
  · isplitl [Hb0]; · iexact Hb0
    iexact Hb1
  isplitl [A0 A1 A2 A3]
  · isplitl [A0]; · iapply (passTok_intro true c 0); iexact A0
    isplitl [A1]; · iapply (passTok_intro true c 1); iexact A1
    isplitl [A2]; · iapply (passTok_intro true c 2); iexact A2
    iapply (passTok_intro true c 3); iexact A3
  isplitl [B0]; · iapply (passTok_intro false c 0); iexact B0
  isplitl [B1]; · iapply (passTok_intro false c 1); iexact B1
  isplitl [B2]; · iapply (passTok_intro false c 2); iexact B2
  iapply (passTok_intro false c 3); iexact B3

/-! ## A device's share -/

/-- A ring's share on device c: the rights to open its cells, its passes' rights and credits, the last credits. -/
def ringShare (δ : Bool) (c : Dev nD) : sProp 𝕄 :=
  iprop((bigSep Finset.univ fun k : Fin 7 => openTok ER ((c : Thread nD τ), cellSem (δ, k)))
    ∗ (bigSep (Finset.Ico 0 4) (rights δ c)) ∗ cred (tallyAt (cellC δ c) 40 3))
theorem ringShare_intro (δ : Bool) (c : Dev nD) :
    iprop((bigSep Finset.univ fun k : Fin 7 => openTok ER ((c : Thread nD τ), cellSem (δ, k))) ∗ bigSep (Finset.Ico 0 4) (passTok δ c) ∗ ringCred δ c)
      ⊢ ringShare (F := F) δ c := by
  unfold ringShare ringCred
  iintro ⟨Ho, Ht, Hc, Hr⟩
  isplitl [Ho]; · iexact Ho
  ihave Hr := (by_pass fun T => (cred (tallyAt (cellR δ (fin3 T) c) (ixR T) N) : sProp 𝕄)) $$ Hr
  ihave Hc := (cred_by_pass δ c) $$ Hc
  icases Hc with ⟨Hc, Hl⟩
  isplitr [Hl]
  · have e : (bigSep (Finset.Ico 0 4) (rights (F := F) δ c)) = iprop(bigSep (Finset.Ico 0 4) (passTok δ c)
        ∗ (bigSep (Finset.Ico 0 4) fun b => iprop(cred (tallyAt (cellR δ (fin3 (3 * b)) c) (ixR (3 * b)) N)
            ∗ cred (tallyAt (cellR δ (fin3 (3 * b + 1)) c) (ixR (3 * b + 1)) N) ∗ cred (tallyAt (cellR δ (fin3 (3 * b + 2)) c) (ixR (3 * b + 2)) N)))
        ∗ (bigSep (Finset.Ico 0 4) fun b => iprop(credIn (F := F) δ c (3 * b) ∗ credIn δ c (3 * b + 1) ∗ credIn δ c (3 * b + 2)))) := by
      rw [← bigSep_sep', ← bigSep_sep']
      refine bigSep_congr fun b hb => ?_
      rw [show fin3 (3 * b) = 0 from Fin.ext (by show (3 * b) % 3 = 0; omega), show fin3 (3 * b + 1) = 1 from Fin.ext (by show (3 * b + 1) % 3 = 1; omega),
        show fin3 (3 * b + 2) = 2 from Fin.ext (by show (3 * b + 2) % 3 = 2; omega)]
      unfold rights passTok
      exact BI.Entails.antisymm (by
        show (_ : sProp 𝕄) ⊢ _
        iintro ⟨H1, H2, H3, H4⟩
        isplitl [H1 H2]; · isplitl [H1] <;> iassumption
        isplitl [H3] <;> iassumption) (by
        show (_ : sProp 𝕄) ⊢ _
        iintro ⟨⟨H1, H2⟩, H3, H4⟩
        isplitl [H1]; · iexact H1
        isplitl [H2]; · iexact H2
        isplitl [H3] <;> iassumption)
    rw [e]
    isplitl [Ht]; · iexact Ht
    isplitl [Hr] <;> iassumption
  iexact Hl

end Cert.KernelIdeal
-- ==== Proof.IdealOpen.lean ====
/-
  The ring kernel's start and end on a device: its scoped cells are opened from their counters at zero, and closed again
  when all rounds are over.
-/
module

public import proofs.«01_k».proof.Proof.IdealFund
public import Idealize.ShloMosaic.Lib.Pipeline.Kit

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

local notation "𝕄" => MT nD τ sig ℕ (Elt F) ℕ UU ℕ

variable (X : Dev nD → S8192x2048.Idx → Elt F .bf16) (W : Dev nD → S2048x4096.Idx → Elt F .bf16)

/-! ## Opening -/

/-- All cells' invariants. -/
abbrev invs (κ : GSem nD τ sig → ℕ) : sProp 𝕄 := bigSep allCells fun g => cellInv ER (Rd X W) (κ g) g
theorem inv_at (κ : GSem nD τ sig → ℕ) {g : GSem nD τ sig} (hg : g ∈ allCells) : invs X W κ ⊢ cellInv ER (Rd X W) (κ g) g :=
  bigSep_elim hg (Φ := fun g => (cellInv ER (Rd X W) (κ g) g : sProp 𝕄))

/-- One scoped cell, opened at round 0. -/
theorem open_cell (κ : GSem nD τ sig → ℕ) (c : Dev nD) (p : Bool × Fin 7) :
    iprop(invs X W κ ∗ openTok ER ((c : Thread nD τ), cellSem p) ∗ semVal ((c : Thread nD τ), cellSem p) 0)
      ⊢ |={Set.univ}=> iprop(atPos ER ((c : Thread nD τ), cellSem p) 0 ∅ 0 ∗ reached ER ((c : Thread nD τ), cellSem p) 0) := by
  iintro ⟨#HI, Ho, Hv⟩
  ihave #Hi := (inv_at X W κ (mem_sc c p)) $$ HI
  imod (cell_open ER (Rd X W) (κ := κ ((c : Thread nD τ), cellSem p)) (Es := Set.univ) (Set.mem_univ _)) $$ [Ho Hv] with ⟨Ha, Hr⟩
  · isplitr; · iexact Hi
    isplitl [Ho] <;> iassumption
  imodintro
  isplitl [Ha] <;> iassumption

/-- Cell k of a ring, open at round 0. -/
def opened (δ : Bool) (c : Dev nD) (k : Fin 7) : sProp 𝕄 :=
  iprop(atPos ER ((c : Thread nD τ), cellSem (δ, k)) 0 ∅ 0 ∗ reached ER ((c : Thread nD τ), cellSem (δ, k)) 0)
/-- A ring's cells and rights on device c when the kernel starts. -/
def ringOpen (δ : Bool) (c : Dev nD) : sProp 𝕄 :=
  iprop((opened δ c 0 ∗ opened δ c 1 ∗ opened δ c 2 ∗ opened δ c 3 ∗ opened δ c 4 ∗ opened δ c 5 ∗ opened δ c 6)
    ∗ (semVal ((c : Thread nD τ), .dma (sX δ)) 0 ∗ semVal ((c : Thread nD τ), .dma (sW δ)) 0 ∗ semVal ((c : Thread nD τ), .dma (sO δ)) 0)
    ∗ (bigSep (Finset.Ico 0 4) (rights δ c)) ∗ cred (tallyAt (cellC δ c) 40 3))
/-- A ring's counters on device c, all zero. -/
def ringSems (δ : Bool) (c : Dev nD) : sProp 𝕄 := bigSep Finset.univ fun k : Fin 10 => semVal ((c : Thread nD τ), ownSem (δ, k)) 0
theorem ringSems_eq (δ : Bool) (c : Dev nD) : (ringSems δ c : sProp 𝕄)
    = iprop(semVal ((c : Thread nD τ), cellSem (δ, 0)) 0 ∗ semVal ((c : Thread nD τ), cellSem (δ, 1)) 0 ∗ semVal ((c : Thread nD τ), cellSem (δ, 2)) 0
      ∗ semVal ((c : Thread nD τ), cellSem (δ, 3)) 0 ∗ semVal ((c : Thread nD τ), cellSem (δ, 4)) 0 ∗ semVal ((c : Thread nD τ), cellSem (δ, 5)) 0
      ∗ semVal ((c : Thread nD τ), cellSem (δ, 6)) 0
      ∗ semVal ((c : Thread nD τ), .dma (sX δ)) 0 ∗ semVal ((c : Thread nD τ), .dma (sW δ)) 0 ∗ semVal ((c : Thread nD τ), .dma (sO δ)) 0) :=
  bigSep_univ_eq_bigSepL [0, 1, 2, 3, 4, 5, 6, 7, 8, 9] (by decide) (by decide) fun k : Fin 10 => (semVal ((c : Thread nD τ), ownSem (δ, k)) 0 : sProp 𝕄)
theorem openToks_eq (δ : Bool) (c : Dev nD) : (bigSep Finset.univ fun k : Fin 7 => (openTok ER ((c : Thread nD τ), cellSem (δ, k)) : sProp 𝕄))
    = iprop(openTok ER ((c : Thread nD τ), cellSem (δ, 0)) ∗ openTok ER ((c : Thread nD τ), cellSem (δ, 1)) ∗ openTok ER ((c : Thread nD τ), cellSem (δ, 2)) ∗ openTok ER ((c : Thread nD τ), cellSem (δ, 3)) ∗ openTok ER ((c : Thread nD τ), cellSem (δ, 4)) ∗ openTok ER ((c : Thread nD τ), cellSem (δ, 5)) ∗ openTok ER ((c : Thread nD τ), cellSem (δ, 6))) :=
  bigSep_univ_eq_bigSepL [0, 1, 2, 3, 4, 5, 6] (by decide) (by decide) fun k : Fin 7 => (openTok ER ((c : Thread nD τ), cellSem (δ, k)) : sProp 𝕄)

theorem ring_open (κ : GSem nD τ sig → ℕ) (δ : Bool) (c : Dev nD) :
    iprop(invs X W κ ∗ ringShare δ c ∗ ringSems δ c) ⊢ |={Set.univ}=> ringOpen (F := F) δ c := by
  rw [ringSems_eq]; unfold ringShare; rw [openToks_eq]
  iintro ⟨#HI, ⟨⟨O0, O1, O2, O3, O4, O5, O6⟩, Hr, Hc⟩, V0, V1, V2, V3, V4, V5, V6, VX, VW, VO⟩
  imod (open_cell X W κ c (δ, 0)) $$ [O0 V0] with A0
  · isplitr; · iexact HI
    isplitl [O0] <;> iassumption
  imod (open_cell X W κ c (δ, 1)) $$ [O1 V1] with A1
  · isplitr; · iexact HI
    isplitl [O1] <;> iassumption
  imod (open_cell X W κ c (δ, 2)) $$ [O2 V2] with A2
  · isplitr; · iexact HI
    isplitl [O2] <;> iassumption
  imod (open_cell X W κ c (δ, 3)) $$ [O3 V3] with A3
  · isplitr; · iexact HI
    isplitl [O3] <;> iassumption
  imod (open_cell X W κ c (δ, 4)) $$ [O4 V4] with A4
  · isplitr; · iexact HI
    isplitl [O4] <;> iassumption
  imod (open_cell X W κ c (δ, 5)) $$ [O5 V5] with A5
  · isplitr; · iexact HI
    isplitl [O5] <;> iassumption
  imod (open_cell X W κ c (δ, 6)) $$ [O6 V6] with A6
  · isplitr; · iexact HI
    isplitl [O6] <;> iassumption
  imodintro
  unfold ringOpen opened
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [VX VW VO]
  · isplitl [VX]; · iexact VX
    isplitl [VW] <;> iassumption
  isplitl [Hr] <;> iassumption

/-- The barrier's share on device c. -/
def barShare (c : Dev nD) : sProp 𝕄 :=
  iprop((dutyTok ER (cellB (nxt false c)) 0 0 ∗ reached ER (cellB (nxt false c)) 0) ∗ (dutyTok ER (cellB (nxt true c)) 0 1 ∗ reached ER (cellB (nxt true c)) 0)
    ∗ cred (tallyAt (cellB c) 1 2) ∗ atPos ER (cellB c) 0 ∅ 0)
/-- What device c brings to the ring kernel, before and after its cells are opened. -/
def Tk (c : Dev nD) : sProp 𝕄 := iprop(∃ κ : GSem nD τ sig → ℕ, invs X W κ ∗ barShare c ∗ ringShare true c ∗ ringShare false c)
def Xk (c : Dev nD) : sProp 𝕄 := iprop(∃ κ : GSem nD τ sig → ℕ, recs X W κ ∗ barShare c ∗ ringOpen true c ∗ ringOpen false c)

theorem own_facts : Pipeline.OwnSemFacts (cfg2.spec) ownSem := by decide
theorem ownSems_eq (c : Dev nD) : (Pipeline.ownSems0 ownSem c : sProp 𝕄) = iprop(ringSems true c ∗ ringSems false c) := by
  unfold Pipeline.ownSems0
  rw [bigSep_univ_prod, over2]
  rfl

theorem hopen (c : Dev nD) : iprop(Tk X W c ∗ Pipeline.ownSems0 ownSem c ∗ levAts LL lv) ⊢ |={Set.univ}=> Xk X W c := by
  rw [ownSems_eq]
  unfold Tk Xk recs
  iintro ⟨⟨%κ, #HI, HB, Ht, Hf⟩, ⟨Hvt, Hvf⟩, #HL⟩
  imod (ring_open X W κ true c) $$ [Ht Hvt] with Ht
  · isplitr; · iexact HI
    isplitl [Ht] <;> iassumption
  imod (ring_open X W κ false c) $$ [Hf Hvf] with Hf
  · isplitr; · iexact HI
    isplitl [Hf] <;> iassumption
  imodintro
  iexists κ
  isplitr
  · isplitr; · iexact HI
    iexact HL
  isplitl [HB]; · iexact HB
  isplitl [Ht] <;> iassumption

/-! ## Closing -/

/-- A cell past its last round gives its counter back at zero. -/
theorem close_dma (κ : GSem nD τ sig → ℕ) (c : Dev nD) (k : DmaSem sig) (hg : ((c : Thread nD τ), SemLoc.dma k) ∈ allCells) :
    iprop(recs X W κ ∗ atPos ER ((c : Thread nD τ), .dma k) 4 ∅ 0) ⊢ |={Set.univ}=> semVal ((c : Thread nD τ), .dma k) 0 := by
  iintro ⟨#HI, Ha⟩
  ihave #Hi := (recs_inv X W κ hg) $$ HI
  iapply (cell_close ER (Rd X W) (κ := κ ((c : Thread nD τ), .dma k)) (Es := Set.univ) (Set.mem_univ _) (fun h => h) (fun r hr => duties_dma_later X W c k hr))
  isplitr; · iexact Hi
  iexact Ha
theorem close_reg (κ : GSem nD τ sig → ℕ) (c : Dev nD) (k : Sem sig) (hg : ((c : Thread nD τ), SemLoc.reg k) ∈ allCells) :
    iprop(recs X W κ ∗ atPos ER ((c : Thread nD τ), .reg k) 1 ∅ 0) ⊢ |={Set.univ}=> semVal ((c : Thread nD τ), .reg k) 0 := by
  iintro ⟨#HI, Ha⟩
  ihave #Hi := (recs_inv X W κ hg) $$ HI
  iapply (cell_close ER (Rd X W) (κ := κ ((c : Thread nD τ), .reg k)) (Es := Set.univ) (Set.mem_univ _) (fun h => h) (fun r hr => duties_reg_later X W c k hr))
  isplitr; · iexact Hi
  iexact Ha

/-- A ring's cells after pass 3. -/
theorem ring_close (κ : GSem nD τ sig → ℕ) (δ : Bool) (c : Dev nD) :
    iprop(recs X W κ ∗ atPos ER (cellC δ c) 1 ∅ 0 ∗ (posS δ 0 c 4 ∗ posS δ 1 c 4 ∗ posS δ 2 c 4) ∗ (posR δ 0 c 4 ∗ posR δ 1 c 4 ∗ posR δ 2 c 4)
        ∗ semVal ((c : Thread nD τ), .dma (sX δ)) 0 ∗ semVal ((c : Thread nD τ), .dma (sW δ)) 0 ∗ semVal ((c : Thread nD τ), .dma (sO δ)) 0)
      ⊢ |={Set.univ}=> ringSems (F := F) δ c := by
  rw [ringSems_eq]; unfold posS posR
  iintro ⟨#HI, A0, ⟨⟨A1, -⟩, ⟨A2, -⟩, ⟨A3, -⟩⟩, ⟨A4, A5, A6⟩, VX, VW, VO⟩
  imod (close_reg X W κ c (sC δ) (mem_C δ c)) $$ [A0] with A0
  · isplitr; · iexact HI
    iexact A0
  imod (close_dma X W κ c (sS δ 0) (mem_S δ 0 c)) $$ [A1] with A1
  · isplitr; · iexact HI
    iexact A1
  imod (close_dma X W κ c (sS δ 1) (mem_S δ 1 c)) $$ [A2] with A2
  · isplitr; · iexact HI
    iexact A2
  imod (close_dma X W κ c (sS δ 2) (mem_S δ 2 c)) $$ [A3] with A3
  · isplitr; · iexact HI
    iexact A3
  imod (close_dma X W κ c (sR δ 0) (mem_R δ 0 c)) $$ [A4] with A4
  · isplitr; · iexact HI
    iexact A4
  imod (close_dma X W κ c (sR δ 1) (mem_R δ 1 c)) $$ [A5] with A5
  · isplitr; · iexact HI
    iexact A5
  imod (close_dma X W κ c (sR δ 2) (mem_R δ 2 c)) $$ [A6] with A6
  · isplitr; · iexact HI
    iexact A6
  imodintro
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [VX]; · iexact VX
  isplitl [VW] <;> iassumption

end Cert.KernelIdeal
-- ==== Proof.IdealBufs.lean ====
/-
  A buffer as its pieces: a family of disjoint rectangles that covers it, the contents glued from the pieces'; the
  receive buffers' three slots, the send buffers' two, the result's eight column blocks.
-/
module

public import proofs.«01_k».proof.Proof.IdealOpen

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

local notation "𝕄" => MT nD τ sig ℕ (Elt F) ℕ UU ℕ

instance eltNonempty (e : EltTy) : Nonempty (Elt F e) := inferInstance

/-! ## Gluing -/

section Glue
variable {s : Shape} {e : EltTy} {T : Type} [Fintype T] [DecidableEq T] (r : T → Rect s)
/-- Contents whose part under rectangle t is Xs t, where the rectangles are disjoint and cover. -/
def glue (Xs : ∀ t, (r t).shape.Idx → Elt F e) : s.Idx → Elt F e := fun i =>
  open Classical in if h : ∃ p : (t : T) × (r t).shape.Idx, (r p.1).emb p.2 = i then Xs h.choose.1 h.choose.2 else Classical.choice (eltNonempty e)
theorem glue_emb (hd : ∀ t t', t ≠ t' → Disjoint (r t).set (r t').set) (Xs : ∀ t, (r t).shape.Idx → Elt F e) (t : T) (j : (r t).shape.Idx) :
    glue r Xs ((r t).emb j) = Xs t j := by
  have h : ∃ p : (t : T) × (r t).shape.Idx, (r p.1).emb p.2 = (r t).emb j := ⟨⟨t, j⟩, rfl⟩
  unfold glue
  rw [dif_pos h]
  have hc := h.choose_spec
  generalize h.choose = p at hc ⊢
  obtain ⟨t', j'⟩ := p
  have ht : t' = t := by
    by_contra hne
    have hc : (r t').emb j' = (r t).emb j := hc
    have h1 : (r t).emb j ∈ (r t').set := by rw [← hc, ← Rect.map_emb_univ]; exact Finset.mem_map_of_mem _ (Finset.mem_univ _)
    have h2 : (r t).emb j ∈ (r t).set := by rw [← Rect.map_emb_univ]; exact Finset.mem_map_of_mem _ (Finset.mem_univ _)
    exact Finset.disjoint_left.mp (hd t' t hne) h1 h2
  subst ht
  rw [(r t').emb.injective hc]

variable (c : Thread nD τ) {sp : Space} (m : Memref sig c.2.kind sp s e) (hr : ∀ t a, (r t).stride a = 1)
  (hd : ∀ t t', t ≠ t' → Disjoint (r t).set (r t').set)
  (hcov : (Finset.univ : Finset T).biUnion (fun t => (r t).set) = Finset.univ)
include hd hcov
/-- Pieces at named contents are the whole at the glued contents. -/
theorem glue_owns (Xs : ∀ t, (r t).shape.Idx → Elt F e) :
    (bigSep Finset.univ fun t => (owns c (m.slice (r t) (hr t)) fullShare (Xs t) : sProp 𝕄)) ⊢ owns c m fullShare (glue r Xs) := by
  have h := owns_of_rects (Ix := ℕ) (Name := ℕ) (U := UU) (Lvl := ℕ) c m fullShare r hr hd hcov (glue r Xs)
  refine BIBase.Entails.trans (Entails.of_eq (bigSep_congr fun t _ => ?_)) h
  exact congrArg _ (funext fun j => (glue_emb r hd Xs t j).symm)
/-- Pieces at some contents are the whole at some. -/
theorem some_join : (bigSep Finset.univ fun t => (some_ c (m.slice (r t) (hr t)) : sProp 𝕄)) ⊢ some_ c m := by
  unfold some_
  refine (bigSep_exists_pi Finset.univ fun t (Y : (r t).shape.Idx → Elt F e) => (owns c (m.slice (r t) (hr t)) fullShare Y : sProp 𝕄)).trans ?_
  iintro ⟨%Y, H⟩
  iexists glue r Y
  iapply (glue_owns r c m hr hd hcov Y) $$ H
/-- The whole at some contents is its pieces at some. -/
theorem some_split : (some_ c m : sProp 𝕄) ⊢ bigSep Finset.univ fun t => some_ c (m.slice (r t) (hr t)) := by
  unfold some_
  iintro ⟨%Y, H⟩
  ihave H := (owns_rects c m fullShare r hr hd hcov Y) $$ H
  iapply (show (bigSep Finset.univ fun t => (owns c (m.slice (r t) (hr t)) fullShare (fun j => Y ((r t).emb j)) : sProp 𝕄))
    ⊢ bigSep Finset.univ fun t => iprop(∃ X, owns c (m.slice (r t) (hr t)) fullShare X) from bigSep_mono fun t _ => by
      show (_ : sProp 𝕄) ⊢ _
      iintro H; iexists _; iexact H) $$ H
end Glue

/-! ## The families -/

abbrev rect3 (h : Fin 3) : Rect S3x2048x512 := Rect.unit (s := S3x2048x512) ![h.val, 0, 0] S1x2048x512.size (inb3 h)
abbrev rect2 (h : Fin 2) : Rect S2x2048x512 := Rect.unit (s := S2x2048x512) ![h.val, 0, 0] S1x2048x512.size (inb2 h)

theorem disj3 (h h' : Fin 3) (hne : h ≠ h') : Disjoint (rect3 h).set (rect3 h').set :=
  Rect.unit_disjoint 0 (by have : h.val ≠ h'.val := fun e => hne (Fin.ext e); show h.val + 1 ≤ h'.val ∨ h'.val + 1 ≤ h.val; omega)
theorem disj2 (h h' : Fin 2) (hne : h ≠ h') : Disjoint (rect2 h).set (rect2 h').set :=
  Rect.unit_disjoint 0 (by have : h.val ≠ h'.val := fun e => hne (Fin.ext e); show h.val + 1 ≤ h'.val ∨ h'.val + 1 ≤ h.val; omega)
theorem disjC (k k' : Fin 8) (hne : k ≠ k') : Disjoint (colR k).set (colR k').set :=
  Rect.unit_disjoint 1 (by have : k.val ≠ k'.val := fun e => hne (Fin.ext e); show 512 * k.val + 512 ≤ 512 * k'.val ∨ 512 * k'.val + 512 ≤ 512 * k.val; omega)
theorem cov3 : (Finset.univ : Finset (Fin 3)).biUnion (fun h => (rect3 h).set) = Finset.univ := by
  ext i
  simp only [Finset.mem_biUnion, Finset.mem_univ, true_and, iff_true]
  refine ⟨⟨(i 0).val, (i 0).isLt⟩, Rect.mem_set_unit.mpr fun a => ?_⟩
  fin_cases a
  · exact ⟨Nat.le_refl _, Nat.lt_succ_self _⟩
  · exact ⟨Nat.zero_le _, (i 1).isLt.trans_eq (Nat.zero_add _).symm⟩
  · exact ⟨Nat.zero_le _, (i 2).isLt.trans_eq (Nat.zero_add _).symm⟩
theorem cov2 : (Finset.univ : Finset (Fin 2)).biUnion (fun h => (rect2 h).set) = Finset.univ := by
  ext i
  simp only [Finset.mem_biUnion, Finset.mem_univ, true_and, iff_true]
  refine ⟨⟨(i 0).val, (i 0).isLt⟩, Rect.mem_set_unit.mpr fun a => ?_⟩
  fin_cases a
  · exact ⟨Nat.le_refl _, Nat.lt_succ_self _⟩
  · exact ⟨Nat.zero_le _, (i 1).isLt.trans_eq (Nat.zero_add _).symm⟩
  · exact ⟨Nat.zero_le _, (i 2).isLt.trans_eq (Nat.zero_add _).symm⟩
theorem covC : (Finset.univ : Finset (Fin 8)).biUnion (fun k => (colR k).set) = Finset.univ := by
  ext i
  simp only [Finset.mem_biUnion, Finset.mem_univ, true_and, iff_true]
  have h1 : (i 1).val < 4096 := (i 1).isLt
  refine ⟨⟨(i 1).val / 512, by omega⟩, Rect.mem_set_unit.mpr fun a => ?_⟩
  fin_cases a
  · exact ⟨Nat.zero_le _, (i 0).isLt.trans_eq (Nat.zero_add _).symm⟩
  · show 512 * ((i 1).val / 512) ≤ (i 1).val ∧ (i 1).val < 512 * ((i 1).val / 512) + 512
    omega

theorem slots_eq (δ : Bool) (c : Dev nD) : (bigSep Finset.univ fun h : Fin 3 => (some_ (c : Thread nD τ) (slot δ h) : sProp 𝕄))
    = iprop(some_ (c : Thread nD τ) (slot δ 0) ∗ some_ (c : Thread nD τ) (slot δ 1) ∗ some_ (c : Thread nD τ) (slot δ 2)) :=
  bigSep_univ_eq_bigSepL [0, 1, 2] (by decide) (by decide) _
theorem sbufs_eq (δ : Bool) (c : Dev nD) : (bigSep Finset.univ fun h : Fin 2 => (some_ (c : Thread nD τ) (sbuf δ h) : sProp 𝕄))
    = iprop(some_ (c : Thread nD τ) (sbuf δ 0) ∗ some_ (c : Thread nD τ) (sbuf δ 1)) :=
  bigSep_univ_eq_bigSepL [0, 1] (by decide) (by decide) _
/-- A receive buffer is its slots. -/
theorem recv_split (δ : Bool) (c : Dev nD) : (some_ (c : Thread nD τ) (recvB δ) : sProp 𝕄)
    ⊢ iprop(some_ (c : Thread nD τ) (slot δ 0) ∗ some_ (c : Thread nD τ) (slot δ 1) ∗ some_ (c : Thread nD τ) (slot δ 2)) := by
  rw [← slots_eq]; exact some_split rect3 (c : Thread nD τ) (recvB δ) (fun _ _ => rfl) disj3 cov3
theorem recv_join (δ : Bool) (c : Dev nD) : iprop(some_ (c : Thread nD τ) (slot δ 0) ∗ some_ (c : Thread nD τ) (slot δ 1) ∗ some_ (c : Thread nD τ) (slot δ 2))
    ⊢ (some_ (c : Thread nD τ) (recvB δ) : sProp 𝕄) := by
  rw [← slots_eq]; exact some_join rect3 (c : Thread nD τ) (recvB δ) (fun _ _ => rfl) disj3 cov3
/-- A send buffer is its slots. -/
theorem send_split (δ : Bool) (c : Dev nD) : (some_ (c : Thread nD τ) (sendB δ) : sProp 𝕄)
    ⊢ iprop(some_ (c : Thread nD τ) (sbuf δ 0) ∗ some_ (c : Thread nD τ) (sbuf δ 1)) := by
  rw [← sbufs_eq]; exact some_split rect2 (c : Thread nD τ) (sendB δ) (fun _ _ => rfl) disj2 cov2
theorem send_join (δ : Bool) (c : Dev nD) : iprop(some_ (c : Thread nD τ) (sbuf δ 0) ∗ some_ (c : Thread nD τ) (sbuf δ 1))
    ⊢ (some_ (c : Thread nD τ) (sendB δ) : sProp 𝕄) := by
  rw [← sbufs_eq]; exact some_join rect2 (c : Thread nD τ) (sendB δ) (fun _ _ => rfl) disj2 cov2

/-! ## The result -/

variable (X : Dev nD → S8192x2048.Idx → Elt F .bf16) (W : Dev nD → S2048x4096.Idx → Elt F .bf16)

/-- Column block k of device c's result: ring true's pass k, or ring false's pass k - 4. -/
def outCol (c : Dev nD) (k : Fin 8) : S2048x512.Idx → Elt F .f32 := outV X W (decide (k.val < 4)) (k.val % 4) c
/-- Device c's result. -/
def outAll (c : Dev nD) : S2048x4096.Idx → Elt F .f32 := glue colR (outCol X W c)
theorem outAll_emb (c : Dev nD) (k : Fin 8) (j : S2048x512.Idx) : outAll X W c ((colR k).emb j) = outCol X W c k j := glue_emb colR disjC (outCol X W c) k j

theorem cols_eq (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem range4 (Φ : ℕ → sProp 𝕄) : bigSep (Finset.range 4) Φ = iprop(Φ 0 ∗ Φ 1 ∗ Φ 2 ∗ Φ 3) :=
  bigSep_eq_bigSepL_of_eq [0, 1, 2, 3] (by decide) (by decide) Φ

/-- Before the first pass: the result at whatever it holds. -/
theorem out_start (c : Dev nD) : (some_ (c : Thread nD τ) oH : sProp 𝕄) ⊢ iprop(outDone X W true c 0 ∗ outDone X W false c 0) := by
  refine (some_split colR (c : Thread nD τ) oH (fun _ _ => rfl) disjC covC).trans ?_
  unfold outDone
  rw [cols_eq, range4, range4]
  simp only [Nat.not_lt_zero, if_false]
  show iprop(some_ (c : Thread nD τ) (oSlice 0) ∗ some_ (c : Thread nD τ) (oSlice 1) ∗ some_ (c : Thread nD τ) (oSlice 2) ∗ some_ (c : Thread nD τ) (oSlice 3)
    ∗ some_ (c : Thread nD τ) (oSlice 4) ∗ some_ (c : Thread nD τ) (oSlice 5) ∗ some_ (c : Thread nD τ) (oSlice 6) ∗ some_ (c : Thread nD τ) (oSlice 7))
    ⊢ iprop((some_ (c : Thread nD τ) (oSlice 0) ∗ some_ (c : Thread nD τ) (oSlice 1) ∗ some_ (c : Thread nD τ) (oSlice 2) ∗ some_ (c : Thread nD τ) (oSlice 3))
    ∗ (some_ (c : Thread nD τ) (oSlice 4) ∗ some_ (c : Thread nD τ) (oSlice 5) ∗ some_ (c : Thread nD τ) (oSlice 6) ∗ some_ (c : Thread nD τ) (oSlice 7)))
  iintro ⟨H0, H1, H2, H3, H⟩
  isplitr [H]
  · isplitl [H0]; · iexact H0
    isplitl [H1]; · iexact H1
    isplitl [H2] <;> iassumption
  iexact H
/-- After the last: the result. -/
theorem out_end (c : Dev nD) : iprop(outDone X W true c 4 ∗ outDone X W false c 4) ⊢ (owns (c : Thread nD τ) oH fullShare (outAll X W c) : sProp 𝕄) := by
  refine BIBase.Entails.trans ?_ (glue_owns colR (c : Thread nD τ) oH (fun _ _ => rfl) disjC covC (outCol X W c))
  unfold outDone
  rw [cols_eq, range4, range4]
  rw [if_pos (by decide), if_pos (by decide), if_pos (by decide), if_pos (by decide), if_pos (by decide), if_pos (by decide), if_pos (by decide), if_pos (by decide)]
  show iprop((owns (c : Thread nD τ) (oSlice 0) fullShare (outV X W true 0 c) ∗ owns (c : Thread nD τ) (oSlice 1) fullShare (outV X W true 1 c) ∗ owns (c : Thread nD τ) (oSlice 2) fullShare (outV X W true 2 c) ∗ owns (c : Thread nD τ) (oSlice 3) fullShare (outV X W true 3 c)) ∗ (owns (c : Thread nD τ) (oSlice 4) fullShare (outV X W false 0 c) ∗ owns (c : Thread nD τ) (oSlice 5) fullShare (outV X W false 1 c) ∗ owns (c : Thread nD τ) (oSlice 6) fullShare (outV X W false 2 c) ∗ owns (c : Thread nD τ) (oSlice 7) fullShare (outV X W false 3 c))) ⊢ iprop(owns (c : Thread nD τ) (oSlice 0) fullShare (outV X W true 0 c) ∗ owns (c : Thread nD τ) (oSlice 1) fullShare (outV X W true 1 c) ∗ owns (c : Thread nD τ) (oSlice 2) fullShare (outV X W true 2 c) ∗ owns (c : Thread nD τ) (oSlice 3) fullShare (outV X W true 3 c) ∗ owns (c : Thread nD τ) (oSlice 4) fullShare (outV X W false 0 c) ∗ owns (c : Thread nD τ) (oSlice 5) fullShare (outV X W false 1 c) ∗ owns (c : Thread nD τ) (oSlice 6) fullShare (outV X W false 2 c) ∗ owns (c : Thread nD τ) (oSlice 7) fullShare (outV X W false 3 c))
  iintro ⟨⟨H0, H1, H2, H3⟩, H⟩
  isplitl [H0]; · iexact H0
  isplitl [H1]; · iexact H1
  isplitl [H2]; · iexact H2
  isplitl [H3] <;> iassumption

end Cert.KernelIdeal
-- ==== Proof.IdealCall.lean ====
/-
  The ring kernel as a call: from its buffers whole, its counters' cells opened and x, w in place, to the buffers whole,
  every counter at zero and the result written.
-/
module

public import proofs.«01_k».proof.Proof.IdealBufs

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Rules Cert.KernelIdeal.Gen

variable {F : FTy → Type} [FloatOps F]

local notation "𝕄" => MT nD τ sig ℕ (Elt F) ℕ UU ℕ

variable (X : Dev nD → S8192x2048.Idx → Elt F .bf16) (W : Dev nD → S2048x4096.Idx → Elt F .bf16)

/-- A ring's scratch buffers on device c, at whatever they hold. -/
def ringBufs (δ : Bool) (c : Dev nD) : sProp 𝕄 :=
  iprop(some_ (c : Thread nD τ) (recvB δ) ∗ some_ (c : Thread nD τ) (sendB δ) ∗ some_ (c : Thread nD τ) (xB δ) ∗ some_ (c : Thread nD τ) (wB δ)
    ∗ some_ (c : Thread nD τ) (gB δ) ∗ some_ (c : Thread nD τ) (oB δ))

theorem opened_C (δ : Bool) (c : Dev nD) : (opened δ c 0 : sProp 𝕄) = iprop(atPos ER (cellC δ c) 0 ∅ 0 ∗ reached ER (cellC δ c) 0) := rfl
theorem opened_S (δ : Bool) (c : Dev nD) : (iprop(opened δ c 1 ∗ opened δ c 2 ∗ opened δ c 3) : sProp 𝕄) = iprop(posS δ 0 c 0 ∗ posS δ 1 c 0 ∗ posS δ 2 c 0) := rfl
theorem opened_R0 (δ : Bool) (c : Dev nD) : (opened δ c 4 : sProp 𝕄) = iprop(posR δ 0 c 0 ∗ reached ER (cellR δ 0 c) 0) := rfl
theorem opened_R1 (δ : Bool) (c : Dev nD) : (opened δ c 5 : sProp 𝕄) = iprop(posR δ 1 c 0 ∗ reached ER (cellR δ 1 c) 0) := rfl
theorem opened_R2 (δ : Bool) (c : Dev nD) : (opened δ c 6 : sProp 𝕄) = iprop(posR δ 2 c 0 ∗ reached ER (cellR δ 2 c) 0) := rfl

/-- What a ring starts from, as the kernel's body takes it. -/
theorem ring_pre (δ : Bool) (c : Dev nD) :
    iprop(ringOpen δ c ∗ ringBufs δ c ∗ owns (c : Thread nD τ) xH (half δ) (X c) ∗ owns (c : Thread nD τ) wH (half δ) (W c) ∗ outDone X W δ c 0)
      ⊢ iprop((slotAt δ 0 c 0 ∗ slotAt δ 1 c 0 ∗ slotAt δ 2 c 0) ∗ (reached ER (cellC δ c) 0 ∗ atPos ER (cellC δ c) 0 ∅ 0)
          ∗ ringRest X W δ c 0 ∗ cred (tallyAt (cellC δ c) 40 3)) := by
  unfold ringOpen ringBufs ringRest xFree wFree slotAt
  rw [opened_C, opened_R0, opened_R1, opened_R2]
  iintro ⟨⟨⟨⟨HaC, HrC⟩, S0, S1, S2, ⟨A0, R0⟩, ⟨A1, R1⟩, ⟨A2, R2⟩⟩, ⟨VX, VW, VO⟩, Hr, Hl⟩, ⟨Hrv, Hsd, HxB, HwB, HgB, HoB⟩, Hx, Hw, Ho⟩
  ihave Hrv := (recv_split δ c) $$ Hrv
  icases Hrv with ⟨D0, D1, D2⟩
  ihave Hsd := (send_split δ c) $$ Hsd
  icases Hsd with ⟨E0, E1⟩
  ihave HS := (show iprop(opened (F := F) δ c 1 ∗ opened δ c 2 ∗ opened δ c 3) ⊢ iprop(posS δ 0 c 0 ∗ posS δ 1 c 0 ∗ posS δ 2 c 0) from .rfl) $$ [S0 S1 S2]
  · isplitl [S0]; · iexact S0
    isplitl [S1] <;> iassumption
  isplitl [D0 D1 D2 R0 R1 R2]
  · isplitl [D0 R0]; · isplitl [D0] <;> iassumption
    isplitl [D1 R1]; · isplitl [D1] <;> iassumption
    isplitl [D2] <;> iassumption
  isplitl [HaC HrC]; · isplitl [HrC] <;> iassumption
  isplitr [Hl]
  · isplitl [HS]; · iexact HS
    isplitl [A0 A1 A2]
    · isplitl [A0]; · iexact A0
      isplitl [A1] <;> iassumption
    isplitl [Hx HxB VX Hw HwB VW]
    · isplitl [Hx HxB VX]
      · isplitl [Hx]; · iexact Hx
        isplitl [HxB] <;> iassumption
      isplitl [Hw]; · iexact Hw
      isplitl [HwB] <;> iassumption
    isplitl [E0 E1]; · isplitl [E0] <;> iassumption
    isplitl [HgB]; · iexact HgB
    isplitl [HoB VO]; · isplitl [HoB] <;> iassumption
    isplitl [Ho] <;> iassumption
  iexact Hl

/-- What a ring ends with: its cells closed, its buffers whole. -/
theorem ring_post (κ : GSem nD τ sig → ℕ) (δ : Bool) (c : Dev nD) :
    iprop(recs X W κ ∗ slotsAt δ c 4 ∗ atPos ER (cellC δ c) 1 ∅ 0 ∗ ringRest X W δ c 4)
      ⊢ |={Set.univ}=> iprop(ringSems δ c ∗ ringBufs δ c ∗ owns (c : Thread nD τ) xH (half δ) (X c) ∗ owns (c : Thread nD τ) wH (half δ) (W c) ∗ outDone X W δ c 4) := by
  unfold ringRest xFree wFree slotsAt slotIn slot2 slotAt ringBufs
  rw [if_neg (by decide), if_neg (by decide), if_neg (by decide)]
  iintro ⟨#HI, ⟨⟨D0, -⟩, ⟨D1, -⟩, ⟨D2, -⟩⟩, HaC, HS, HR, ⟨⟨Hx, HxB, VX⟩, Hw, HwB, VW⟩, ⟨E0, E1⟩, HgB, ⟨HoB, VO⟩, Ho, -⟩
  imod (ring_close X W κ δ c) $$ [HaC HS HR VX VW VO] with HV
  · isplitr; · iexact HI
    isplitl [HaC]; · iexact HaC
    isplitl [HS]; · iexact HS
    isplitl [HR]; · iexact HR
    isplitl [VX]; · iexact VX
    isplitl [VW] <;> iassumption
  imodintro
  isplitl [HV]; · iexact HV
  isplitl [D0 D1 D2 E0 E1 HxB HwB HgB HoB]
  · isplitl [D0 D1 D2]
    · iapply (recv_join δ c)
      isplitl [D0]; · iexact D0
      isplitl [D1] <;> iassumption
    isplitl [E0 E1]
    · iapply (send_join δ c)
      isplitl [E0] <;> iassumption
    isplitl [HxB]; · iexact HxB
    isplitl [HwB]; · iexact HwB
    isplitl [HgB] <;> iassumption
  isplitl [Hx]; · iexact Hx
  isplitl [Hw] <;> iassumption

/-- The ring kernel on device c: from x, w and the result's buffer to the result. -/
theorem ring_call {defs : Defs nD τ sig (Elt F) Λ₀} (𝒱 : Variants) (c : Dev nD) (bd : Option 𝒱.V) :
    iprop(Xk X W c ∗ (ringBufs true c ∗ ringBufs false c)
        ∗ (owns (c : Thread nD τ) xH fullShare (X c) ∗ owns (c : Thread nD τ) wH fullShare (W c) ∗ some_ (c : Thread nD τ) oH) ∗ owing c (dues₀ c))
      ⊢ wp frame (wpE defs 𝒱 (c : Thread nD τ) bd) Set.univ (onBufs (cc2_body (F := F)))
          (fun _ => iprop((semVal (cellB c) 0 ∗ ringSems true c ∗ ringSems false c) ∗ (ringBufs true c ∗ ringBufs false c)
            ∗ (owns (c : Thread nD τ) xH fullShare (X c) ∗ owns (c : Thread nD τ) wH fullShare (W c) ∗ owns (c : Thread nD τ) oH fullShare (outAll X W c)) ∗ owing c 0)) := by
  unfold Xk barShare
  iintro ⟨⟨%κ, #HI, HB, Hot, Hof⟩, ⟨Hbt, Hbf⟩, ⟨Hx, Hw, Ho⟩, HO⟩
  ihave Hx := (owns_halves (c : Thread nD τ) xH fullShare (X c)).1 $$ Hx
  icases Hx with ⟨Hxt, Hxf⟩
  ihave Hw := (owns_halves (c : Thread nD τ) wH fullShare (W c)).1 $$ Hw
  icases Hw with ⟨Hwt, Hwf⟩
  ihave Ho := (out_start X W c) $$ Ho
  icases Ho with ⟨Ht, Hf⟩
  ihave Pt := (ring_pre X W true c) $$ [Hot Hbt Hxt Hwt Ht]
  · isplitl [Hot]; · iexact Hot
    isplitl [Hbt]; · iexact Hbt
    isplitl [Hxt]; · iexact Hxt
    isplitl [Hwt]; · iexact Hwt
    iexact Ht
  ihave Pf := (ring_pre X W false c) $$ [Hof Hbf Hxf Hwf Hf]
  · isplitl [Hof]; · iexact Hof
    isplitl [Hbf]; · iexact Hbf
    isplitl [Hxf]; · iexact Hxf
    isplitl [Hwf]; · iexact Hwf
    iexact Hf
  icases Pt with ⟨St, ⟨Rt, At⟩, Tt, Ct⟩
  icases Pf with ⟨Sf, ⟨Rf, Af⟩, Tf, Cf⟩
  iapply (wp_fupd frame (wpE defs 𝒱 (c : Thread nD τ) bd) Set.univ (onBufs (cc2_body (F := F))) _)
  iapply (wp_wand frame (wpE defs 𝒱 (c : Thread nD τ) bd) Set.univ (p := onBufs (cc2_body (F := F))) (Q := fun _ => bodyPost X W c)) $$ [HB St Rt At Tt Ct Sf Rf Af Tf Cf HO]
  · iapply (body X W κ 𝒱 c bd)
    unfold bodyPre
    isplitr; · iexact HI
    isplitl [HB]; · iexact HB
    isplitl [St Sf]; · isplitl [St] <;> iassumption
    isplitl [Rt Rf]; · isplitl [Rt] <;> iassumption
    isplitl [At Af]; · isplitl [At] <;> iassumption
    isplitl [Tt Tf]; · isplitl [Tt] <;> iassumption
    isplitl [Ct Cf]; · isplitl [Ct] <;> iassumption
    iexact HO
  iintro %u Hp
  unfold bodyPost
  icases Hp with ⟨HB, ⟨St, Sf⟩, ⟨At, Af⟩, ⟨Tt, Tf⟩, HO⟩
  imod (close_reg X W κ c sB (mem_B c)) $$ [HB] with HB
  · isplitr; · iexact HI
    iexact HB
  imod (ring_post X W κ true c) $$ [St At Tt] with ⟨Vt, Bt, Hxt, Hwt, Ot⟩
  · isplitr; · iexact HI
    isplitl [St]; · iexact St
    isplitl [At] <;> iassumption
  imod (ring_post X W κ false c) $$ [Sf Af Tf] with ⟨Vf, Bf, Hxf, Hwf, Of⟩
  · isplitr; · iexact HI
    isplitl [Sf]; · iexact Sf
    isplitl [Af] <;> iassumption
  imodintro
  isplitl [HB Vt Vf]
  · isplitl [HB]; · iexact HB
    isplitl [Vt] <;> iassumption
  isplitl [Bt Bf]; · isplitl [Bt] <;> iassumption
  isplitr [HO]
  · isplitl [Hxt Hxf]
    · iapply (owns_halves (c : Thread nD τ) xH fullShare (X c)).2
      isplitl [Hxt]; · iexact Hxt
      iexact Hxf
    isplitl [Hwt Hwf]
    · iapply (owns_halves (c : Thread nD τ) wH fullShare (W c)).2
      isplitl [Hwt]; · iexact Hwt
      iexact Hwf
    iapply (out_end X W c)
    isplitl [Ot] <;> iassumption
  iexact HO

end Cert.KernelIdeal
-- ==== Proof.IdealCasts.lean ====
/-
  The first two calls of the kernel cast each device's blocks of x and of w, block by block: what their pipelines carry,
  their bodies, and what they leave. What the ring kernel owes is owed throughout.
-/
module

public import proofs.«01_k».proof.Proof.IdealCall
public import Idealize.ShloMosaic.Lib.Pipeline.Value
public import Idealize.ShloMosaic.Lib.Pipeline.FrameBody
public import proofs.«01_k».proof.Proof.Gen.KernelIdeal.Points
public import proofs.«01_k».proof.Proof.Gen.KernelIdeal.Launch

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Rules Cert.KernelIdeal.Gen

variable {F : FTy → Type} [FloatOps F]

local notation "𝕄" => MT nD τ sig ℕ (Elt F) ℕ UU ℕ

variable (m : (ℓ : Loc nD τ sig) → Buf (Elt F) ℓ)

/-- No recursion variant is needed. -/
abbrev 𝒱₀ : Variants := .none

/-! ## Call 0: x -/

/-- x on device c: the argument's block, each element cast. -/
abbrev cast0 (c : Dev nD) : S8192x2048.Idx → Elt F .bf16 := truncf (s := S8192x2048) .bf16 (m ((c : Thread nD τ).loc main_arg0)) bitsLt_bf16_f32

/-- The body of call 0 casts what one staging buffer holds into the other. -/
theorem cast_body0 (𝒱 : Variants) (c : Dev nD) (bd : Option 𝒱.V) (i : grid0.Coords)
    (a : Memref sig .tc .vmem S1024x2048 .f32) (ha : a.IsWhole) (b : Memref sig .tc .vmem S1024x2048 .bf16) (hb : b.IsWhole) (Y : S1024x2048.Idx → Elt F .f32) :
    iprop(owns (c : Thread nD τ) a fullShare Y ∗ some_ (c : Thread nD τ) b)
      ⊢ (wp frame (wpE defs₀ 𝒱 (c : Thread nD τ) bd) Set.univ (cc0_body i a ha b hb)
          (fun _ => iprop(owns (c : Thread nD τ) a fullShare Y ∗ owns (c : Thread nD τ) b fullShare (k0_pay1 Y))) : sProp 𝕄) := by
  rw [cc0_body_eq_skeleton]
  unfold cc0_body_skel some_
  iintro ⟨Ha, %Z, Hb⟩
  iapply (wp_load_all 𝒱 (c : Thread nD τ) bd z2) $$ Ha
  iintro Ha
  iapply (wp_load_all 𝒱 (c : Thread nD τ) bd z2) $$ Hb
  iintro Hb
  iapply (wp_store_all 𝒱 (c : Thread nD τ) bd z2) $$ [Hb]
  · iapply (some_intro (c : Thread nD τ) b Z); iexact Hb
  iintro Hb
  rw [show ((Prog.ret PUnit.unit).bind fun _ => Pure.pure PUnit.unit : Prog (TpuEff nD τ sig (Elt F) Λ₀ .tc) PUnit) = .ret ⟨⟩ from rfl, wp_ret]
  imodintro
  isplitl [Ha]; · iexact Ha
  iexact Hb

/-- What call 0's pipeline carries: its argument's blocks cast one by one, the dues of the ring kernel all still owed. -/
def dat0 (c : Dev nD) : Dat τ (Elt F) ℕ ℕ UU ℕ cfg0 c where
  A := fun w => match w with
    | ⟨0, _⟩ => m ((c : Thread nD τ).loc main_arg0)
    | ⟨1, _⟩ => m ((c : Thread nD τ).loc main_v1)
    | ⟨n + 2, h⟩ => absurd h (Nat.not_lt.2 (Nat.le_add_left _ _))
  after := fun w t => match w with
    | ⟨0, _⟩ => (win0_0.blk t).view.read (Elt F) (m ((c : Thread nD τ).loc main_arg0))
    | ⟨1, _⟩ => k0_pay1 ((win0_0.blk t).view.read (Elt F) (m ((c : Thread nD τ).loc main_arg0)))
    | ⟨n + 2, h⟩ => absurd h (Nat.not_lt.2 (Nat.le_add_left _ _))
  Φ := fun _ => Pipeline.scopedRest spec0 c
  q := fun _ => fullShare
  owed := fun _ => dues₀ c

theorem before0 (c : Dev nD) (t : Fin cfg0.N) (d) :
    (dat0 m c).before 0 t d = (win0_0.blk t).view.read (Elt F) (m ((c : Thread nD τ).loc main_arg0)) := by
  rw [(dat0 m c).before_fetched 0 t (fetch0_0 t)]
  rfl

/-- Call 0's body at a point of its grid. -/
theorem oblig0 (c : Dev nD) : BodyObligation (dat0 m c) defs₀ 𝒱₀ 0 Set.univ := fun t => by
  rw [bigSep_W0, bigSep_W0]
  rw [show (dat0 m c).Φ t.succ = (dat0 m c).Φ t.castSucc from rfl,
    show (dat0 m c).owesAt 0 t.succ = (dat0 m c).owesAt 0 t.castSucc from rfl]
  iintro ⟨HΦ, HO, ⟨%d0, Ha⟩, %d1, Hb⟩
  rw [before0]
  iapply (wp_wand frame (wpE defs₀ 𝒱₀ (c : Thread nD τ) none) Set.univ (p := bodyAt0 t)
    (Q := fun _ => iprop(owns (c : Thread nD τ) (st0_0 t) fullShare ((win0_0.blk t).view.read (Elt F) (m ((c : Thread nD τ).loc main_arg0)))
      ∗ owns (c : Thread nD τ) (st0_1 t) fullShare (k0_pay1 ((win0_0.blk t).view.read (Elt F) (m ((c : Thread nD τ).loc main_arg0))))))) $$ [Ha Hb]
  · iapply (cast_body0 𝒱₀ c none (grid0.coords t) (st0_0 t) (hstage0_0 ((cfg0.slots t 0).cast nbuf0_0)) (st0_1 t) (hstage0_1 ((cfg0.slots t 1).cast nbuf0_1)))
    isplitl [Ha]; · iexact Ha
    iapply (some_intro (c : Thread nD τ) (st0_1 t)); iexact Hb
  iintro %u ⟨Ha, Hb⟩
  isplitl [HΦ]; · iexact HΦ
  isplitl [HO]; · iexact HO
  isplitl [Ha]; · iexact Ha
  iexact Hb

/-- What is written back at a point is that point's block of the cast argument. -/
theorem flushed0 (c : Dev nD) (t : Fin cfg0.N) :
    (dat0 m c).flushed 1 t = (win0_1.blk t).view.read (Elt F) (cast0 m c) := by
  show k0_pay1 ((win0_0.blk t).view.read (Elt F) (m ((c : Thread nD τ).loc main_arg0))) = _
  unfold k0_pay1
  dsimp only
  rw [shapeCast_self]
  rfl

/-- The blocks fill the array. -/
theorem cover0 (i : S8192x2048.Idx) : ∃ t : Fin cfg0.N, (cfg0.win 1).flush t = true ∧ i ∈ ((cfg0.win 1).blk t).view.set := by
  have h0 : (i 0 : Nat) < 8192 := (i 0).isLt
  have h1 : (i 1 : Nat) < 2048 := (i 1).isLt
  have hN : cfg0.N = 8 := N_0
  have ht : (i 0 : Nat) / 1024 < cfg0.N := by omega
  refine ⟨⟨(i 0 : Nat) / 1024, ht⟩, flush0_1 _, ?_⟩
  have e : ∀ t : Fin grid0.N, win0_1.index t 0 = t.val ∧ win0_1.index t 1 = 0 := by decide +kernel
  show i ∈ ((View.whole main_v1).slice (win0_1.rect ⟨(i 0 : Nat) / 1024, ht⟩)).set
  rw [View.set_slice_whole, Rect.mem_set_unit]
  intro a
  match a with
  | ⟨0, _⟩ =>
    show win0_1.index ⟨(i 0 : Nat) / 1024, ht⟩ 0 * 1024 ≤ (i 0 : Nat) ∧ (i 0 : Nat) < win0_1.index ⟨(i 0 : Nat) / 1024, ht⟩ 0 * 1024 + 1024
    rw [(e _).1]; dsimp only; omega
  | ⟨1, _⟩ =>
    show win0_1.index ⟨(i 0 : Nat) / 1024, ht⟩ 1 * 2048 ≤ (i 1 : Nat) ∧ (i 1 : Nat) < win0_1.index ⟨(i 0 : Nat) / 1024, ht⟩ 1 * 2048 + 2048
    rw [(e _).2]; omega

/-- So call 0 leaves the cast argument. -/
theorem final0 (c : Dev nD) : (dat0 m c).arrAt 1 cfg0.N = cast0 m c :=
  (dat0 m c).arrAt_eq_of_cover 1 (cast0 m c) (fun t _ => flushed0 m c t) (cover0)

/-! ## Call 1: w -/

/-- w on device c: the argument's block, each element cast. -/
abbrev cast1 (c : Dev nD) : S2048x4096.Idx → Elt F .bf16 := truncf (s := S2048x4096) .bf16 (m ((c : Thread nD τ).loc main_arg1)) bitsLt_bf16_f32

/-- The body of call 1 casts what one staging buffer holds into the other. -/
theorem cast_body1 (𝒱 : Variants) (c : Dev nD) (bd : Option 𝒱.V) (i : grid1.Coords)
    (a : Memref sig .tc .vmem S512x4096 .f32) (ha : a.IsWhole) (b : Memref sig .tc .vmem S512x4096 .bf16) (hb : b.IsWhole) (Y : S512x4096.Idx → Elt F .f32) :
    iprop(owns (c : Thread nD τ) a fullShare Y ∗ some_ (c : Thread nD τ) b)
      ⊢ (wp frame (wpE defs₀ 𝒱 (c : Thread nD τ) bd) Set.univ (cc1_body i a ha b hb)
          (fun _ => iprop(owns (c : Thread nD τ) a fullShare Y ∗ owns (c : Thread nD τ) b fullShare (k1_pay1 Y))) : sProp 𝕄) := by
  rw [cc1_body_eq_skeleton]
  unfold cc1_body_skel some_
  iintro ⟨Ha, %Z, Hb⟩
  iapply (wp_load_all 𝒱 (c : Thread nD τ) bd z2) $$ Ha
  iintro Ha
  iapply (wp_load_all 𝒱 (c : Thread nD τ) bd z2) $$ Hb
  iintro Hb
  iapply (wp_store_all 𝒱 (c : Thread nD τ) bd z2) $$ [Hb]
  · iapply (some_intro (c : Thread nD τ) b Z); iexact Hb
  iintro Hb
  rw [show ((Prog.ret PUnit.unit).bind fun _ => Pure.pure PUnit.unit : Prog (TpuEff nD τ sig (Elt F) Λ₀ .tc) PUnit) = .ret ⟨⟩ from rfl, wp_ret]
  imodintro
  isplitl [Ha]; · iexact Ha
  iexact Hb

/-- What call 1's pipeline carries: its argument's blocks cast one by one, the dues of the ring kernel all still owed. -/
def dat1 (c : Dev nD) : Dat τ (Elt F) ℕ ℕ UU ℕ cfg1 c where
  A := fun w => match w with
    | ⟨0, _⟩ => m ((c : Thread nD τ).loc main_arg1)
    | ⟨1, _⟩ => m ((c : Thread nD τ).loc main_v2)
    | ⟨n + 2, h⟩ => absurd h (Nat.not_lt.2 (Nat.le_add_left _ _))
  after := fun w t => match w with
    | ⟨0, _⟩ => (win1_0.blk t).view.read (Elt F) (m ((c : Thread nD τ).loc main_arg1))
    | ⟨1, _⟩ => k1_pay1 ((win1_0.blk t).view.read (Elt F) (m ((c : Thread nD τ).loc main_arg1)))
    | ⟨n + 2, h⟩ => absurd h (Nat.not_lt.2 (Nat.le_add_left _ _))
  Φ := fun _ => Pipeline.scopedRest spec1 c
  q := fun _ => fullShare
  owed := fun _ => dues₀ c

theorem before1 (c : Dev nD) (t : Fin cfg1.N) (d) :
    (dat1 m c).before 0 t d = (win1_0.blk t).view.read (Elt F) (m ((c : Thread nD τ).loc main_arg1)) := by
  rw [(dat1 m c).before_fetched 0 t (fetch1_0 t)]
  rfl

/-- Call 1's body at a point of its grid. -/
theorem oblig1 (c : Dev nD) : BodyObligation (dat1 m c) defs₀ 𝒱₀ 0 Set.univ := fun t => by
  rw [bigSep_W1, bigSep_W1]
  rw [show (dat1 m c).Φ t.succ = (dat1 m c).Φ t.castSucc from rfl,
    show (dat1 m c).owesAt 0 t.succ = (dat1 m c).owesAt 0 t.castSucc from rfl]
  iintro ⟨HΦ, HO, ⟨%d0, Ha⟩, %d1, Hb⟩
  rw [before1]
  iapply (wp_wand frame (wpE defs₀ 𝒱₀ (c : Thread nD τ) none) Set.univ (p := bodyAt1 t)
    (Q := fun _ => iprop(owns (c : Thread nD τ) (st1_0 t) fullShare ((win1_0.blk t).view.read (Elt F) (m ((c : Thread nD τ).loc main_arg1)))
      ∗ owns (c : Thread nD τ) (st1_1 t) fullShare (k1_pay1 ((win1_0.blk t).view.read (Elt F) (m ((c : Thread nD τ).loc main_arg1))))))) $$ [Ha Hb]
  · iapply (cast_body1 𝒱₀ c none (grid1.coords t) (st1_0 t) (hstage1_0 ((cfg1.slots t 0).cast nbuf1_0)) (st1_1 t) (hstage1_1 ((cfg1.slots t 1).cast nbuf1_1)))
    isplitl [Ha]; · iexact Ha
    iapply (some_intro (c : Thread nD τ) (st1_1 t)); iexact Hb
  iintro %u ⟨Ha, Hb⟩
  isplitl [HΦ]; · iexact HΦ
  isplitl [HO]; · iexact HO
  isplitl [Ha]; · iexact Ha
  iexact Hb

/-- What is written back at a point is that point's block of the cast argument. -/
theorem flushed1 (c : Dev nD) (t : Fin cfg1.N) :
    (dat1 m c).flushed 1 t = (win1_1.blk t).view.read (Elt F) (cast1 m c) := by
  show k1_pay1 ((win1_0.blk t).view.read (Elt F) (m ((c : Thread nD τ).loc main_arg1))) = _
  unfold k1_pay1
  dsimp only
  rw [shapeCast_self]
  rfl

/-- The blocks fill the array. -/
theorem cover1 (i : S2048x4096.Idx) : ∃ t : Fin cfg1.N, (cfg1.win 1).flush t = true ∧ i ∈ ((cfg1.win 1).blk t).view.set := by
  have h0 : (i 0 : Nat) < 2048 := (i 0).isLt
  have h1 : (i 1 : Nat) < 4096 := (i 1).isLt
  have hN : cfg1.N = 4 := N_1
  have ht : (i 0 : Nat) / 512 < cfg1.N := by omega
  refine ⟨⟨(i 0 : Nat) / 512, ht⟩, flush1_1 _, ?_⟩
  have e : ∀ t : Fin grid1.N, win1_1.index t 0 = t.val ∧ win1_1.index t 1 = 0 := by decide +kernel
  show i ∈ ((View.whole main_v2).slice (win1_1.rect ⟨(i 0 : Nat) / 512, ht⟩)).set
  rw [View.set_slice_whole, Rect.mem_set_unit]
  intro a
  match a with
  | ⟨0, _⟩ =>
    show win1_1.index ⟨(i 0 : Nat) / 512, ht⟩ 0 * 512 ≤ (i 0 : Nat) ∧ (i 0 : Nat) < win1_1.index ⟨(i 0 : Nat) / 512, ht⟩ 0 * 512 + 512
    rw [(e _).1]; dsimp only; omega
  | ⟨1, _⟩ =>
    show win1_1.index ⟨(i 0 : Nat) / 512, ht⟩ 1 * 4096 ≤ (i 1 : Nat) ∧ (i 1 : Nat) < win1_1.index ⟨(i 0 : Nat) / 512, ht⟩ 1 * 4096 + 4096
    rw [(e _).2]; omega

/-- So call 1 leaves the cast argument. -/
theorem final1 (c : Dev nD) : (dat1 m c).arrAt 1 cfg1.N = cast1 m c :=
  (dat1 m c).arrAt_eq_of_cover 1 (cast1 m c) (fun t _ => flushed1 m c t) (cover1)

end Cert.KernelIdeal
-- ==== Proof.IdealLaunch.lean ====
/-
  The kernel's three calls, one after the other: what a device's arrays hold between them, the two casts as pipelined
  calls and the ring kernel as a call that talks to other devices.
-/
module

public import proofs.«01_k».proof.Proof.IdealCasts
public import Idealize.ShloMosaic.Lib.Pipeline.RegionArraysS
public import Idealize.ShloMosaic.Lib.Pipeline.RegionTalk

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Rules Cert.KernelIdeal.Gen

variable {F : FTy → Type} [FloatOps F]

local notation "𝕄" => MT nD τ sig ℕ (Elt F) ℕ UU ℕ

variable (m : (ℓ : Loc nD τ sig) → Buf (Elt F) ℓ)

/-! ## What the arrays hold between the calls -/

/-- The five arrays of a device. -/
abbrev arrays : Finset (DevRef τ sig) := Pipeline.ucRefs τ sig

/-- At launch; after x is cast; after w is cast; after the ring kernel. -/
def at0 (c : Dev nD) : Valuation τ sig (Elt F) := fun b => m (c, b)
def at1 (c : Dev nD) : Valuation τ sig (Elt F) := Pipeline.afterRegion (dat0 m c) (at0 m c)
def at2 (c : Dev nD) : Valuation τ sig (Elt F) := Pipeline.afterRegion (dat1 m c) (at1 m c)
/-- The result of the ring kernel on the cast arguments. -/
def result (c : Dev nD) : S2048x4096.Idx → Elt F .f32 := outAll (cast0 m) (cast1 m) c
def at3 (c : Dev nD) : Valuation τ sig (Elt F) := Function.update (at2 m c) (Proc.devRef .tc main_v3) (result m c)

theorem inj0 : Function.Injective (Pipeline.arrRef cfg0.spec) := winFacts0.arr_inj
theorem inj1 : Function.Injective (Pipeline.arrRef cfg1.spec) := winFacts1.arr_inj

/-- A buffer that is not the first call's result is as launched after it. -/
theorem at1_other (c : Dev nD) (r : Ref sig .tc) (h : r ≠ main_v1) : at1 m c (Proc.devRef .tc r) = m ((c : Thread nD τ).loc r) :=
  Pipeline.afterRegion_keeps (dat0 m c) (at0 m c) inj0
    (fun w => match w with | ⟨0, _⟩ => rfl | ⟨1, _⟩ => rfl | ⟨_ + 2, h⟩ => absurd h (Nat.not_lt.2 (Nat.le_add_left _ _))) r
    (fun w => match w with | ⟨0, _⟩ => fun _ => rfl | ⟨1, _⟩ => fun e => absurd e.symm h | ⟨_ + 2, h⟩ => absurd h (Nat.not_lt.2 (Nat.le_add_left _ _)))
theorem at1_v1 (c : Dev nD) : at1 m c (Proc.devRef .tc main_v1) = cast0 m c :=
  (Pipeline.afterRegion_arr (dat0 m c) (at0 m c) inj0 1).trans (final0 m c)
theorem enter1 (c : Dev nD) : ∀ w, (dat1 m c).A w = at1 m c (Proc.devRef .tc (Pipeline.arrRef cfg1.spec w)) := fun w => match w with
  | ⟨0, _⟩ => (at1_other m c main_arg1 (by decide)).symm
  | ⟨1, _⟩ => (at1_other m c main_v2 (by decide)).symm
  | ⟨_ + 2, h⟩ => absurd h (Nat.not_lt.2 (Nat.le_add_left _ _))
/-- A buffer that is not the second call's result is as the first call left it. -/
theorem at2_other (c : Dev nD) (r : Ref sig .tc) (h : r ≠ main_v2) : at2 m c (Proc.devRef .tc r) = at1 m c (Proc.devRef .tc r) :=
  Pipeline.afterRegion_keeps (dat1 m c) (at1 m c) inj1 (enter1 m c) r
    (fun w => match w with | ⟨0, _⟩ => fun _ => rfl | ⟨1, _⟩ => fun e => absurd e.symm h | ⟨_ + 2, h⟩ => absurd h (Nat.not_lt.2 (Nat.le_add_left _ _)))
theorem at2_v2 (c : Dev nD) : at2 m c (Proc.devRef .tc main_v2) = cast1 m c :=
  (Pipeline.afterRegion_arr (dat1 m c) (at1 m c) inj1 1).trans (final1 m c)
theorem at2_v1 (c : Dev nD) : at2 m c (Proc.devRef .tc main_v1) = cast0 m c := (at2_other m c main_v1 (by decide)).trans (at1_v1 m c)
theorem at3_v3 (c : Dev nD) : at3 m c (Proc.devRef .tc main_v3) = result m c := Function.update_self _ _ _
theorem at3_other (c : Dev nD) (r : Ref sig .tc) (h : r ≠ main_v3) : at3 m c (Proc.devRef .tc r) = at2 m c (Proc.devRef .tc r) :=
  Function.update_of_ne (StableHlo.devRef_ne_of_ne h) _ _
/-- The arguments end as launched. -/
theorem at3_arg0 (c : Dev nD) : at3 m c (Proc.devRef .tc main_arg0) = m ((c : Thread nD τ).loc main_arg0) :=
  (at3_other m c main_arg0 (by decide)).trans ((at2_other m c main_arg0 (by decide)).trans (at1_other m c main_arg0 (by decide)))
theorem at3_arg1 (c : Dev nD) : at3 m c (Proc.devRef .tc main_arg1) = m ((c : Thread nD τ).loc main_arg1) :=
  (at3_other m c main_arg1 (by decide)).trans ((at2_other m c main_arg1 (by decide)).trans (at1_other m c main_arg1 (by decide)))

/-- The five arrays, one by one. -/
theorem arrays_eq (c : Dev nD) (V : Valuation τ sig (Elt F)) :
    (StableHlo.held (c.tc : Thread nD τ) arrays V : sProp 𝕄)
      = iprop(((c : Thread nD τ).loc main_arg0 ↦{fullShare} V (Proc.devRef .tc main_arg0)) ∗ ((c : Thread nD τ).loc main_arg1 ↦{fullShare} V (Proc.devRef .tc main_arg1))
        ∗ ((c : Thread nD τ).loc main_v1 ↦{fullShare} V (Proc.devRef .tc main_v1)) ∗ ((c : Thread nD τ).loc main_v2 ↦{fullShare} V (Proc.devRef .tc main_v2))
        ∗ ((c : Thread nD τ).loc main_v3 ↦{fullShare} V (Proc.devRef .tc main_v3))) := by
  unfold StableHlo.held
  rw [bigSep_eq_bigSepL_of_eq [Proc.devRef .tc main_arg0, Proc.devRef .tc main_arg1, Proc.devRef .tc main_v1, Proc.devRef .tc main_v2, Proc.devRef .tc main_v3]
    (by decide) (by decide)]
  rfl

/-! ## The ring kernel's call -/

/-- Before and after the ring kernel's one point. -/
def ringIn (c : Dev nD) : sProp 𝕄 :=
  iprop(Pipeline.scopedRest cfg2.spec c ∗ (∃ r, prngReg c r) ∗ StableHlo.held (c.tc : Thread nD τ) arrays (at2 m c) ∗ Xk (cast0 m) (cast1 m) c)
def ringOut (c : Dev nD) : sProp 𝕄 :=
  iprop(Pipeline.scopedRest cfg2.spec c ∗ (∃ r, prngReg c r) ∗ StableHlo.held (c.tc : Thread nD τ) arrays (at3 m c) ∗ Pipeline.ownSems0 ownSem c ∗ semVal (cellB c) 0)

/-- The ring kernel's call: nothing pipelined, everything owed before it and nothing after. -/
def dat2 (c : Dev nD) : Dat τ (Elt F) ℕ ℕ UU ℕ cfg2 c where
  A := fun w => w.elim0
  after := fun w => w.elim0
  Φ := fun t => if t.val = 0 then ringIn m c else ringOut m c
  q := fun _ => fullShare
  owed := fun t => if t.val = 0 then dues₀ c else 0

theorem one2 (t : Fin cfg2.N) : t.castSucc.val = 0 ∧ t.succ.val ≠ 0 := by
  have h := t.isLt
  have hN : cfg2.N = 1 := N_2
  rw [Fin.val_succ, Fin.val_castSucc]
  omega

theorem owes_in {cfg : Pipeline.Cfg sig Λ₀} {c : Dev nD} (dat : Dat τ (Elt F) ℕ ℕ UU ℕ cfg c) (t : Fin (cfg.N + 1)) (O : CellTallies nD τ sig ℕ)
    (h0 : dat.owed t = O) (hr : dat.recorded t = Set.univ) : owing c O ⊢ (dat.owesAt 0 t : sProp 𝕄) := by
  unfold owing Dat.owesAt Pipeline.owesWithin Dat.bound
  rw [h0, hr]
  iintro ⟨%Wd, HO⟩
  iexists Wd
  isplitr; · ipureintro; exact fun _ _ => Or.inl trivial
  iexact HO
theorem owes_out {cfg : Pipeline.Cfg sig Λ₀} {c : Dev nD} (dat : Dat τ (Elt F) ℕ ℕ UU ℕ cfg c) (t : Fin (cfg.N + 1)) (O : CellTallies nD τ sig ℕ)
    (h0 : dat.owed t = O) : (dat.owesAt 0 t : sProp 𝕄) ⊢ owing c O := by
  unfold owing Dat.owesAt Pipeline.owesWithin
  rw [h0]
  iintro ⟨%Wd, -, HO⟩
  iexists Wd; iexact HO

/-- The buffers the ring kernel does not use: the casts' staging buffers. -/
def staging (c : Dev nD) : sProp 𝕄 :=
  iprop(some_ (c : Thread nD τ) (Memref.whole cc0_stg0_0) ∗ some_ (c : Thread nD τ) (Memref.whole cc0_stg0_1) ∗ some_ (c : Thread nD τ) (Memref.whole cc0_stg1_0)
    ∗ some_ (c : Thread nD τ) (Memref.whole cc0_stg1_1) ∗ some_ (c : Thread nD τ) (Memref.whole cc1_stg0_0) ∗ some_ (c : Thread nD τ) (Memref.whole cc1_stg0_1)
    ∗ some_ (c : Thread nD τ) (Memref.whole cc1_stg1_0) ∗ some_ (c : Thread nD τ) (Memref.whole cc1_stg1_1))

/-- A whole buffer at some contents. -/
theorem some_whole (c : Dev nD) (b : Ref sig .tc) :
    (some_ (c : Thread nD τ) (Memref.whole b) : sProp 𝕄) = iprop(∃ f : Buf (Elt F) ((c : Thread nD τ).loc b), ((c : Thread nD τ).loc b) ↦{fullShare} f) := by
  unfold some_
  exact congrArg BI.BIBase.exists (funext fun f => owns_whole (c : Thread nD τ) b fullShare f)

theorem rest_eq (c : Dev nD) :
    (Pipeline.scopedRest cfg2.spec c : sProp 𝕄) ⊣⊢ iprop(staging c ∗ ringBufs true c ∗ ringBufs false c) := by
  rw [scopedRest2_eq]
  unfold staging ringBufs
  simp only [← some_whole]
  constructor
  · iintro ⟨A0, A1, A2, A3, A4, A5, A6, A7, R0, R1, S0, S1, X0, X1, W0, W1, G0, G1, O0, O1⟩
    isplitl [A0 A1 A2 A3 A4 A5 A6 A7]
    · isplitl [A0]; · iexact A0
      isplitl [A1]; · iexact A1
      isplitl [A2]; · iexact A2
      isplitl [A3]; · iexact A3
      isplitl [A4]; · iexact A4
      isplitl [A5]; · iexact A5
      isplitl [A6] <;> iassumption
    isplitl [R0 S0 X0 W0 G0 O0]
    · isplitl [R0]; · iexact R0
      isplitl [S0]; · iexact S0
      isplitl [X0]; · iexact X0
      isplitl [W0]; · iexact W0
      isplitl [G0]; · iexact G0
      iexact O0
    isplitl [R1]; · iexact R1
    isplitl [S1]; · iexact S1
    isplitl [X1]; · iexact X1
    isplitl [W1]; · iexact W1
    isplitl [G1]; · iexact G1
    iexact O1
  · iintro ⟨⟨A0, A1, A2, A3, A4, A5, A6, A7⟩, ⟨R0, S0, X0, W0, G0, O0⟩, R1, S1, X1, W1, G1, O1⟩
    isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [R0]; · iexact R0
    isplitl [R1]; · iexact R1
    isplitl [S0]; · iexact S0
    isplitl [S1]; · iexact S1
    isplitl [X0]; · iexact X0
    isplitl [X1]; · iexact X1
    isplitl [W0]; · iexact W0
    isplitl [W1]; · iexact W1
    isplitl [G0]; · iexact G0
    isplitl [G1]; · iexact G1
    isplitl [O0]; · iexact O0
    iexact O1

theorem rest_open (c : Dev nD) : (Pipeline.scopedRest cfg2.spec c : sProp 𝕄) ⊢ iprop(staging c ∗ ringBufs true c ∗ ringBufs false c) := (rest_eq c).1
theorem rest_close (c : Dev nD) : iprop(staging c ∗ ringBufs true c ∗ ringBufs false c) ⊢ (Pipeline.scopedRest cfg2.spec c : sProp 𝕄) := (rest_eq c).2

theorem no_windows (Φ : Fin cfg2.W → sProp 𝕄) : bigSep Finset.univ Φ = (BI.emp : sProp 𝕄) := bigSep_univ_eq_bigSepL [] (by decide) (by decide) Φ

/-- The ring kernel's body at its one point. -/
theorem oblig2 (c : Dev nD) : BodyObligation (dat2 m c) defs₀ 𝒱₀ 0 Set.univ := fun t => by
  obtain ⟨hz, hs⟩ := one2 t
  have hi : (dat2 m c).Φ t.castSucc = ringIn m c := by show (if t.castSucc.val = 0 then ringIn m c else ringOut m c) = _; exact if_pos hz
  have ho : (dat2 m c).Φ t.succ = ringOut m c := by show (if t.succ.val = 0 then ringIn m c else ringOut m c) = _; exact if_neg hs
  rw [hi, ho]
  rw [no_windows, no_windows]
  unfold ringIn ringOut
  rw [arrays_eq, arrays_eq, at3_v3, at3_other m c main_v1 (by decide), at3_other m c main_v2 (by decide), at3_other m c main_arg0 (by decide),
    at3_other m c main_arg1 (by decide), at2_v1, at2_v2, ownSems_eq]
  iintro ⟨⟨Hs, Hp, ⟨H0, H1, Hx, Hw, Ho⟩, HX⟩, HO, -⟩
  ihave Hs := (rest_open c) $$ Hs
  icases Hs with ⟨Hs, Hb⟩
  ihave HO := (owes_out (dat2 m c) t.castSucc (dues₀ c) (if_pos hz)) $$ HO
  iapply (wp_wand frame (wpE defs₀ 𝒱₀ (c : Thread nD τ) none) Set.univ (p := onBufs (cc2_body (F := F)))
    (Q := fun _ => iprop((semVal (cellB c) 0 ∗ ringSems true c ∗ ringSems false c) ∗ (ringBufs true c ∗ ringBufs false c)
      ∗ (owns (c : Thread nD τ) xH fullShare (cast0 m c) ∗ owns (c : Thread nD τ) wH fullShare (cast1 m c)
        ∗ owns (c : Thread nD τ) oH fullShare (result m c)) ∗ owing c 0))) $$ [HX Hb Hx Hw Ho HO]
  · iapply (ring_call (cast0 m) (cast1 m) 𝒱₀ c none)
    isplitl [HX]; · iexact HX
    isplitl [Hb]; · iexact Hb
    isplitl [Hx Hw Ho]
    · isplitl [Hx]; · iapply (BIBase.Entails.of_eq (owns_whole (c : Thread nD τ) main_v1 fullShare (cast0 m c)).symm); iexact Hx
      isplitl [Hw]; · iapply (BIBase.Entails.of_eq (owns_whole (c : Thread nD τ) main_v2 fullShare (cast1 m c)).symm); iexact Hw
      iapply (BIBase.Entails.of_eq (some_whole c main_v3).symm)
      iexists (at2 m c (Proc.devRef .tc main_v3)); iexact Ho
    iexact HO
  iintro %u ⟨⟨Hz, Hr⟩, Hb, ⟨Hx, Hw, Ho⟩, HO⟩
  ihave Hx := (BIBase.Entails.of_eq (owns_whole (c : Thread nD τ) main_v1 fullShare (cast0 m c))) $$ Hx
  ihave Hw := (BIBase.Entails.of_eq (owns_whole (c : Thread nD τ) main_v2 fullShare (cast1 m c))) $$ Hw
  ihave Ho := (BIBase.Entails.of_eq (owns_whole (c : Thread nD τ) main_v3 fullShare (result m c))) $$ Ho
  isplitr [HO]
  · isplitl [Hs Hb]
    · iapply (rest_close c)
      isplitl [Hs]; · iexact Hs
      iexact Hb
    isplitl [Hp]; · iexact Hp
    isplitl [H0 H1 Hx Hw Ho]
    · isplitl [H0]; · iexact H0
      isplitl [H1]; · iexact H1
      isplitl [Hx]; · iexact Hx
      isplitl [Hw]; · iexact Hw
      iexact Ho
    isplitl [Hr]; · iexact Hr
    iexact Hz
  isplitl [HO]
  · iapply (owes_in (dat2 m c) t.succ 0 (show (if t.succ.val = 0 then dues₀ c else 0) = 0 from if_neg hs) rfl); iexact HO
  iempintro

end Cert.KernelIdeal
-- ==== Proof.IdealRun.lean ====
/-
  The whole run: the three calls as a chain, the launch that makes what the first one enters with, and what every run ends with.
-/
module

public import proofs.«01_k».proof.Proof.IdealLaunch
public import Idealize.ShloMosaic.Lib.Pipeline.Regions
public import Idealize.ShloMosaic.Lib.Quiescent

@[expose] public section

set_option synthInstance.maxSize 4096

noncomputable section

namespace Cert.KernelIdeal

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Rules Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The three calls as segments -/

/-- No call prefetches a table. -/
abbrev noTables : (p : Fin 3) → (pcfgs (F := F) p).Adm := fun p => (cfgs p).toPCfg_adm

/-- The three calls' proof data. -/
def calls : (p : Fin 3) → (c : Dev nD) → Dat τ (Elt F) ℕ ℕ UU ℕ (Pipeline.pin (pcfgs (F := F)) noTables p) c
  | 0 => dat0 m
  | 1 => dat1 m
  | 2 => dat2 m

theorem facts0 : Pipeline.PLaunchFacts (nD := nD) (τ := τ) (pcfgs (F := F)) 0 where
  cellOf_inj a := by rw [Subsingleton.elim a noTables]; exact cellOf_inj
  win := winFacts0
  pre := Pipeline.PreFacts.none _
  block_pos := block_pos0
  arr_whole := arr_whole0
  stage_whole := stage_whole0
theorem facts1 : Pipeline.PLaunchFacts (nD := nD) (τ := τ) (pcfgs (F := F)) 1 where
  cellOf_inj a := by rw [Subsingleton.elim a noTables]; exact cellOf_inj
  win := winFacts1
  pre := Pipeline.PreFacts.none _
  block_pos := block_pos1
  arr_whole := arr_whole1
  stage_whole := stage_whole1
theorem facts2 : Pipeline.PLaunchFacts (nD := nD) (τ := τ) (pcfgs (F := F)) 2 where
  cellOf_inj a := by rw [Subsingleton.elim a noTables]; exact cellOf_inj
  win := winFacts2
  pre := Pipeline.PreFacts.none _
  block_pos := block_pos2
  arr_whole := arr_whole2
  stage_whole := stage_whole2

/-- What is owed from launch lies above the level of the casts' transfers. -/
theorem above_dues₀ (c : Dev nD) : Above 0 (dues₀ c) :=
  above_add (above_add (above_dues c (by decide) (by decide)) (above_tally _ _ rfl (by decide) (by decide))) (above_tally _ _ rfl (by decide) (by decide))
theorem level0 (c : Dev nD) (s : SemLoc sig) : 0 ∈ LL ((c : Thread nD τ), s) := by
  show 0 ∈ (if ((c : Thread nD τ), s).1.2 = .tc then Finset.range NL else ∅)
  rw [if_pos rfl]; exact Finset.mem_range.mpr (by decide)

/-- What a device holds, beside its arrays and dues, until the ring kernel starts. -/
abbrev waiting (c : Dev nD) : sProp 𝕄 := iprop((∃ r, prngReg c r) ∗ Tk (cast0 m) (cast1 m) c)

set_option backward.isDefEq.respectTransparency.types false in
/-- Call 0. -/
def region0 : Pipeline.RegionSeg (pcfgs (F := F)) noTables (calls m) 0 defs₀ 𝒱₀ LL lv 0 :=
  Pipeline.RegionSeg.ofHeldIn (pcfgs (F := F)) noTables (calls m) 0 defs₀ 𝒱₀ LL lv 0 dues₀ arrays (fun _ => iprop(emp)) (fun _ => iprop(emp))
    facts0 rfl (fun c => (oblig0 m c).loose) (fun _ _ => rfl) (fun _ => rfl)
    (fun c w => match w with | ⟨0, _⟩ => rfl | ⟨1, _⟩ => rfl | ⟨_ + 2, h⟩ => absurd h (Nat.not_lt.2 (Nat.le_add_left _ _)))
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H
      isplitl [H]; · iexact H
      iempintro)
    (fun _ => 0) ⟨fun c _ _ => level0 c _, fun _ _ _ => le_refl 0, fun c g i h => (above_dues₀ c g i h).symm⟩
    (waiting m) (at0 m)
    (fun c w => match w with | ⟨0, _⟩ => rfl | ⟨1, _⟩ => rfl | ⟨_ + 2, h⟩ => absurd h (Nat.not_lt.2 (Nat.le_add_left _ _)))

set_option backward.isDefEq.respectTransparency.types false in
/-- Call 1. -/
def region1 : Pipeline.RegionSeg (pcfgs (F := F)) noTables (calls m) 0 defs₀ 𝒱₀ LL lv 1 :=
  Pipeline.RegionSeg.ofHeldIn (pcfgs (F := F)) noTables (calls m) 0 defs₀ 𝒱₀ LL lv 1 dues₀ arrays (fun _ => iprop(emp)) (fun _ => iprop(emp))
    facts1 rfl (fun c => (oblig1 m c).loose) (fun _ _ => rfl) (fun _ => rfl)
    (fun c w => match w with | ⟨0, _⟩ => rfl | ⟨1, _⟩ => rfl | ⟨_ + 2, h⟩ => absurd h (Nat.not_lt.2 (Nat.le_add_left _ _)))
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H
      isplitl [H]; · iexact H
      iempintro)
    (fun _ => 0) ⟨fun c _ _ => level0 c _, fun _ _ _ => le_refl 0, fun c g i h => (above_dues₀ c g i h).symm⟩
    (waiting m) (at1 m) (fun c w => enter1 m c w)

theorem owed2_first (c : Dev nD) : (calls m 2 c).owed 0 = 0 + dues₀ c := by
  rw [zero_add]
  show (if ((0 : Fin (cfg2.N + 1)).val = 0) then dues₀ c else 0) = dues₀ c
  exact if_pos rfl
theorem owed2_last (c : Dev nD) : (calls m 2 c).owed (Fin.last _) = 0 := by
  show (if (Fin.last cfg2.N).val = 0 then dues₀ c else 0) = 0
  rw [Fin.val_last, if_neg (by rw [show cfg2.N = 1 from N_2]; decide)]
theorem ring_first (c : Dev nD) : (calls m 2 c).Φ 0 = ringIn m c := by
  show (if ((0 : Fin (cfg2.N + 1)).val = 0) then ringIn m c else ringOut m c) = _
  exact if_pos rfl
theorem ring_last (c : Dev nD) : (calls m 2 c).Φ (Fin.last _) = ringOut m c := by
  show (if (Fin.last cfg2.N).val = 0 then ringIn m c else ringOut m c) = _
  rw [Fin.val_last, if_neg (by rw [show cfg2.N = 1 from N_2]; decide)]
theorem cut2 (c : Dev nD) (t : Fin ((Pipeline.pin (pcfgs (F := F)) noTables 2).N + 1)) (g : GSem nD τ sig) (i : ℕ) (h : 0 < (calls m 2 c).owed t g i) :
    i ∈ LL g ∧ (0 : ℕ) < lv g i := by
  have e : (calls m 2 c).owed t = if t.val = 0 then dues₀ c else 0 := rfl
  rw [e] at h
  split at h
  · exact (above_dues₀ c g i h).symm
  · exact absurd h (Nat.lt_irrefl 0)

set_option backward.isDefEq.respectTransparency.types false in
/-- Call 2, the ring kernel. -/
def region2 : Pipeline.RegionSeg (pcfgs (F := F)) noTables (calls m) 0 defs₀ 𝒱₀ LL lv 2 :=
  Pipeline.RegionSeg.ofTalk (pcfgs (F := F)) noTables (calls m) 0 defs₀ 𝒱₀ LL lv 2 ownSem own_facts
    arrays arrays (Finset.Subset.refl _) facts2 rfl (fun c => (oblig2 m c).loose)
    (fun _ => 0) dues₀ (owed2_first m) (owed2_last m) (fun _ => rfl) (fun _ w => w.elim0)
    (at2 m) (at3 m) (fun _ b hb => absurd hb (by rw [Finset.sdiff_self]; exact Finset.notMem_empty b))
    (Tk (cast0 m) (cast1 m)) (fun c => semVal (cellB c) 0) (Xk (cast0 m) (cast1 m)) (fun c => semVal (cellB c) 0)
    (hopen (cast0 m) (cast1 m))
    (fun c => by
      rw [ring_first]
      exact BI.Entails.refl _)
    (fun c => by
      rw [ring_last]
      exact BI.Entails.refl _)
    (fun c => by iintro H; imodintro; iexact H)
    (fun _ => 0)
    ⟨fun _ w => w.elim0, fun _ w => w.elim0, fun c t g i h => cut2 m c t g i h⟩
    (fun _ => iprop(emp))
    (fun _ w => w.elim0) (fun _ w => w.elim0)

/-- The ring kernel has no array of a window. -/
theorem no_arrays (c : Dev nD) (V : Valuation τ sig (Elt F)) :
    (StableHlo.held (c.tc : Thread nD τ) (Pipeline.arrRefs (τ := τ) (pcfgs (F := F) 2).spec) V : sProp 𝕄) = BI.emp := by
  have h : Pipeline.arrRefs (τ := τ) (pcfgs (F := F) 2).spec = ∅ := by
    unfold Pipeline.arrRefs
    rw [Finset.map_eq_empty, Finset.image_eq_empty]
    exact (Finset.univ_eq_empty : (Finset.univ : Finset (Fin 0)) = ∅)
  rw [h]
  unfold StableHlo.held
  exact BI.bigSep_empty

theorem sub0 : Pipeline.arrRefs (τ := τ) (pcfgs (F := F) 0).spec ⊆ arrays := (by decide : Pipeline.arrRefs (τ := τ) spec0 ⊆ arrays)
theorem sub1 : Pipeline.arrRefs (τ := τ) (pcfgs (F := F) 1).spec ⊆ arrays := (by decide : Pipeline.arrRefs (τ := τ) spec1 ⊆ arrays)

/-- A device between calls: its arrays at V, what it owes, what waits. -/
abbrev between (V : Dev nD → Valuation τ sig (Elt F)) (c : Dev nD) : sProp 𝕄 :=
  iprop(StableHlo.held (c.tc : Thread nD τ) arrays (V c) ∗ ((∃ Wd, owes (c : Thread nD τ) (dues₀ c) Wd) ∗ emp ∗ waiting m c))

set_option backward.isDefEq.respectTransparency.types false in
theorem pre0 (c : Dev nD) : between m (at0 m) c ⊢ (region0 m).pre c :=
  BIBase.Entails.trans (BI.Entails.refl _) (Pipeline.RegionSeg.ofHeldIn_pre (X := fun _ => iprop(emp)) (Y := fun _ => iprop(emp)) (R := waiting m) (D := dues₀) (W := at0 m) sub0 c)
theorem post0 (c : Dev nD) : (region0 m).post c ⊢ between m (at1 m) c := Pipeline.RegionSeg.ofHeldIn_post sub0 c
set_option backward.isDefEq.respectTransparency.types false in
theorem pre1 (c : Dev nD) : between m (at1 m) c ⊢ (region1 m).pre c :=
  BIBase.Entails.trans (BI.Entails.refl _) (Pipeline.RegionSeg.ofHeldIn_pre (X := fun _ => iprop(emp)) (Y := fun _ => iprop(emp)) (R := waiting m) (D := dues₀) (W := at1 m) sub1 c)
theorem post1 (c : Dev nD) : (region1 m).post c ⊢ between m (at2 m) c := Pipeline.RegionSeg.ofHeldIn_post sub1 c

theorem pre2 (c : Dev nD) : between m (at2 m) c ⊢ (region2 m).pre c := by
  show _ ⊢ iprop(StableHlo.held (c.tc : Thread nD τ) (Pipeline.arrRefs (τ := τ) (pcfgs (F := F) 2).spec) (at2 m c) ∗ (∃ r, prngReg c r)
    ∗ (StableHlo.held (c.tc : Thread nD τ) arrays (at2 m c) ∗ emp) ∗ Tk (cast0 m) (cast1 m) c ∗ ∃ Wd, owes (c : Thread nD τ) (0 + dues₀ c) Wd)
  rw [no_arrays, zero_add]
  iintro ⟨Hh, HO, -, Hp, HT⟩
  isplitr; · iempintro
  isplitl [Hp]; · iexact Hp
  isplitl [Hh]
  · isplitl [Hh]; · iexact Hh
    iempintro
  isplitl [HT]; · iexact HT
  iexact HO

/-- A device at the end: its arrays, the barrier's counter at zero. -/
abbrev ended (c : Dev nD) : sProp 𝕄 := iprop(StableHlo.held (c.tc : Thread nD τ) arrays (at3 m c) ∗ semVal (cellB c) 0)

theorem post2 (c : Dev nD) : (region2 m).post c ⊢ iprop(ended m c ∗ ∃ Wd, owes (c : Thread nD τ) (0 : CellTallies nD τ sig ℕ) Wd) := by
  show iprop(StableHlo.held (c.tc : Thread nD τ) (Pipeline.arrRefs (τ := τ) (pcfgs (F := F) 2).spec) (at3 m c) ∗ (∃ r, prngReg c r)
    ∗ (StableHlo.held (c.tc : Thread nD τ) arrays (at3 m c) ∗ emp) ∗ semVal (cellB c) 0 ∗ ∃ Wd, owes (c : Thread nD τ) (0 : CellTallies nD τ sig ℕ) Wd) ⊢ _
  iintro ⟨-, -, ⟨Hh, -⟩, Hb, HO⟩
  isplitr [HO]
  · isplitl [Hh]; · iexact Hh
    iexact Hb
  iexact HO

/-! ## The launch -/

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact (show ∀ p : Bool × Fin 7, cellSem p ≠ .reg sB from by decide) p.2 (congrArg Prod.snd h)

/-- The ghost state at launch: the pipelines', the rounds', the local copies' counters. -/
def start₀ : UU :=
  (Rounds.initOf (Pipeline.cells (Pipeline.pin (pcfgs (F := F)) noTables) cellOf_inj) (Pipeline.launchToks (Pipeline.pin (pcfgs (F := F)) noTables) cellOf_inj),
    (launchOf barCells scCells toks, 1))

/-- The rounds' ghost state, all of it on device 0 until it is dealt. -/
def onFirst (P : sProp 𝕄) (c : Dev nD) : sProp 𝕄 := if c = 0 then P else iprop(emp)
theorem onFirst_all (P : sProp 𝕄) : bigSep Finset.univ (onFirst P) = P := by
  rw [bigSep_univ_at _ 0, bigSep_congr (s := Finset.univ.erase 0) (Ψ := fun _ => (BI.emp : sProp 𝕄))
      fun c hc => by unfold onFirst; rw [if_neg (Finset.ne_of_mem_erase hc)]; rfl, BI.bigSep_emp_const]
  unfold onFirst
  rw [if_pos rfl]
  exact BI.equiv_iff.mp sep_emp
abbrev ghosts : Dev nD → sProp 𝕄 := onFirst (BI.own (ER (launchOf barCells scCells toks)))

theorem unscopedSems0_eq (c : Dev nD) : (unscopedSems0 c : sProp 𝕄) = semVal (cellB c) 0 := by
  unfold unscopedSems0
  rw [show (Finset.univ.filter fun sm : SemLoc sig => ¬ sm.isScoped .tc) = {SemLoc.reg sB} from by decide, BI.bigSep_singleton]

/-- What the rounds' launch records for everybody. -/
def records (κ : GSem nD τ sig → ℕ) : sProp 𝕄 :=
  iprop(invs (cast0 m) (cast1 m) κ ∗ bigSep barCells fun g => reached ER g 0)
instance records_persistent (κ : GSem nD τ sig → ℕ) : BI.Persistent (records m κ) := by unfold records invs; infer_instance
theorem reached_at (c : Dev nD) : (bigSep barCells fun g => (reached ER g 0 : sProp 𝕄)) ⊢ reached ER (cellB c) 0 :=
  bigSep_elim (Finset.mem_map_of_mem barEmb (Finset.mem_univ c)) (Φ := fun g => (reached ER g 0 : sProp 𝕄))

/-- What is dealt to device c of the rounds' ghost state. -/
def dealt (c : Dev nD) : sProp 𝕄 :=
  iprop(atPos ER (cellB c) 0 ∅ 0
    ∗ ((bigSep Finset.univ fun k : Fin 7 => openTok ER ((c : Thread nD τ), cellSem (true, k))) ∗ bigSep Finset.univ fun k : Fin 7 => openTok ER ((c : Thread nD τ), cellSem (false, k)))
    ∗ (barTok c ∗ (bigSep (Finset.Ico 0 4) (passTok true c)) ∗ bigSep (Finset.Ico 0 4) (passTok false c)))
/-- What device c has at launch beside it. -/
def held₀ (c : Dev nD) : sProp 𝕄 :=
  iprop(StableHlo.held (c.tc : Thread nD τ) arrays (at0 m c) ∗ (cred (tallyAt (cellB c) 1 2) ∗ ringCred true c ∗ ringCred false c)
    ∗ owes (c : Thread nD τ) (dues₀ c) ∅ ∗ ∃ r, prngReg c r)

theorem deal (κ : GSem nD τ sig → ℕ) (c : Dev nD) : iprop(records m κ ∗ (dealt c ∗ held₀ m c)) ⊢ between m (at0 m) c := by
  unfold records dealt held₀ between waiting Tk barShare barTok
  iintro ⟨⟨#HI, #HR⟩, ⟨Ha, ⟨Ot, Of⟩, ⟨B0, B1⟩, Pt, Pf⟩, Hh, ⟨Cb, Ct, Cf⟩, HO, Hp⟩
  isplitl [Hh]; · iexact Hh
  isplitl [HO]; · iexists ∅; iexact HO
  isplitr; · iempintro
  isplitl [Hp]; · iexact Hp
  iexists κ
  isplitr; · iexact HI
  isplitl [Ha B0 B1 Cb]
  · isplitl [B0]
    · isplitl [B0]; · iexact B0
      iapply (reached_at (F := F) (nxt false c)); iexact HR
    isplitl [B1]
    · isplitl [B1]; · iexact B1
      iapply (reached_at (F := F) (nxt true c)); iexact HR
    isplitl [Cb]; · iexact Cb
    iexact Ha
  isplitl [Ot Pt Ct]
  · iapply (ringShare_intro true c)
    isplitl [Ot]; · iexact Ot
    isplitl [Pt]; · iexact Pt
    iexact Ct
  iapply (ringShare_intro false c)
  isplitl [Of]; · iexact Of
  isplitl [Pf]; · iexact Pf
  iexact Cf

/-- The launch: every cell's invariant is made and everything is dealt out. -/
theorem launch :
    iprop((bigSep Finset.univ fun c : Dev nD => iprop(unscopedBufs c (fun b => m ((c : Thread nD τ).loc b)) ∗ unscopedSems0 c
          ∗ owes (c : Thread nD τ) (dues₀ c) ∅ ∗ Pipeline.launchCred dues₀ c ∗ prngReg c (ρ c) ∗ ghosts c)) ∗ levAts LL lv)
      ⊢ (|={Set.univ}=> bigSep Finset.univ (between m (at0 m)) : sProp 𝕄) := by
  have hcore (c : Dev nD) : iprop(unscopedBufs c (fun b => m ((c : Thread nD τ).loc b)) ∗ unscopedSems0 c
        ∗ owes (c : Thread nD τ) (dues₀ c) ∅ ∗ Pipeline.launchCred dues₀ c ∗ prngReg c (ρ c) ∗ ghosts c)
      ⊢ (iprop(held₀ m c ∗ (semVal (cellB c) 0 ∗ ghosts c)) : sProp 𝕄) := by
    rw [show unscopedBufs c (fun b => m ((c : Thread nD τ).loc b)) = StableHlo.held (c.tc : Thread nD τ) arrays (at0 m c) from
        Pipeline.unscopedBufs_held c (at0 m c),
      unscopedSems0_eq]
    unfold held₀
    iintro ⟨Hh, Hus, HO, Hcr, Hp, HG⟩
    ihave Hc := (creds (F := F) c) $$ Hcr
    isplitl [Hh Hc HO Hp]
    · isplitl [Hh]; · iexact Hh
      isplitl [Hc]; · iexact Hc
      isplitl [HO]; · iexact HO
      iexists (ρ c); iexact Hp
    isplitl [Hus]; · iexact Hus
    iexact HG
  have hv : bigSep Finset.univ (fun c : Dev nD => (semVal (cellB c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cellB c) 0 ∅ 0 : sProp 𝕄)) :=
    Entails.of_eq (bigSep_map (s := Finset.univ) barEmb (Φ := fun g : GSem nD τ sig => (atPos ER g 0 ∅ 0 : sProp 𝕄)))
  have ho : bigSep scCells (fun g => (openTok ER g : sProp 𝕄))
      ⊢ bigSep Finset.univ (fun c : Dev nD => iprop((bigSep Finset.univ fun k : Fin 7 => openTok ER ((c : Thread nD τ), cellSem (true, k)))
          ∗ bigSep Finset.univ fun k : Fin 7 => openTok ER ((c : Thread nD τ), cellSem (false, k)))) :=
    Entails.of_eq (by
      rw [bigSep_map, bigSep_univ_prod]
      exact bigSep_congr fun c _ => by
        rw [bigSep_univ_prod, over2]; rfl)
  iintro ⟨H, -⟩
  ihave H' := (show (bigSep Finset.univ fun c : Dev nD => iprop(unscopedBufs c (fun b => m ((c : Thread nD τ).loc b)) ∗ unscopedSems0 c
          ∗ owes (c : Thread nD τ) (dues₀ c) ∅ ∗ Pipeline.launchCred dues₀ c ∗ prngReg c (ρ c) ∗ ghosts c))
      ⊢ (bigSep Finset.univ fun c : Dev nD => iprop(held₀ m c ∗ (semVal (cellB c) 0 ∗ ghosts c)) : sProp 𝕄) from bigSep_mono fun c _ => hcore c) $$ H
  ihave H2 := (BIBase.Entails.of_eq (bigSep_sep' _ _ _)) $$ H'; icases H2 with ⟨HB, H3⟩
  ihave H4 := (BIBase.Entails.of_eq (bigSep_sep' _ _ _)) $$ H3; icases H4 with ⟨Hv, HG⟩
  ihave Hu := (show bigSep Finset.univ (ghosts (F := F)) ⊢ BI.own (ER (launchOf barCells scCells toks)) from
    Entails.of_eq (onFirst_all (F := F) (BI.own (ER (launchOf barCells scCells toks))))) $$ HG
  imod (Rounds.fund_launch ER (Rd (cast0 m) (cast1 m)) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(dealt c ∗ held₀ m c)) fun c _ => deal m κ c)
  isplitr
  · unfold records invs
    isplitr; · iexact Hinv
    iexact Hr
  iapply (BIBase.Entails.of_eq (bigSep_sep' _ _ _).symm)
  isplitr [HB]
  · unfold dealt
    iapply (BIBase.Entails.of_eq (bigSep_sep' _ _ _).symm); isplitl [Hat]; · iapply hat $$ Hat
    iapply (BIBase.Entails.of_eq (bigSep_sep' _ _ _).symm); isplitl [Hopen]; · iapply ho $$ Hopen
    iapply (toks_deal (F := F)) $$ Htok
  · iexact HB

/-! ## The run -/

/-- The barrier's semaphore is the only one that outlives a call. -/
theorem unscoped_sem : ∀ sm : SemLoc sig, sm.isScoped .tc = false → sm = .reg sB := by decide

set_option backward.isDefEq.respectTransparency.types false in
/-- Every run of the kernel from any memory terminates; it ends with each device's arguments as launched, its result the one the ring kernel
    makes of the cast arguments, and every semaphore at zero. -/
theorem kernel_run : θ_run defs (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1))
        ∧ r.2.mem ((c.tc : Thread nD τ).loc main_v3) = result m c) ∧ r.2.sem = fun _ => 0) :=
  Pipeline.θ_run_regions_kit_sems (pcfgs (F := F)) noTables (calls m) 0 cellOf_inj EP defs₀ 𝒱₀ LL lv m ρ main
    [.region (region0 m), .region (region1 m), .region (region2 m)]
    (fun c Q => by rw [main_segs noTables (calls m) 0 𝒱₀ LL lv (region0 m) (region1 m) (region2 m) c])
    (by simp only [Pipeline.Seg.pipes_region, Pipeline.Seg.pipes_nil]; decide)
    (O₀ := dues₀) (hL := fun g hg => if_neg hg) (G := ghosts) (u₀ := start₀ (F := F))
    (hu₀ := by
      unfold start₀
      iintro Hu
      ihave H := (ownU_pair _ _) $$ Hu
      icases H with ⟨HP, HX⟩
      imodintro
      isplitl [HP]; · iexact HP
      rw [onFirst_all]
      iexact HX)
    (T₀ := between m (at0 m)) (Tₙ := ended m)
    (hch := ⟨fun c => pre0 m c, fun c => (post0 m c).trans (pre1 m c), fun c => (post1 m c).trans (pre2 m c), fun c => post2 m c⟩)
    (hinit := launch m ρ)
    (QY := fun c s => ((s.mem ((c.tc : Thread nD τ).loc main_arg0) = m ((c.tc : Thread nD τ).loc main_arg0)
        ∧ s.mem ((c.tc : Thread nD τ).loc main_arg1) = m ((c.tc : Thread nD τ).loc main_arg1))
        ∧ s.mem ((c.tc : Thread nD τ).loc main_v3) = result m c) ∧ s.sem (cellB c) = 0)
    (hfin := fun c s' => by
      unfold ended StableHlo.held
      iintro ⟨⟨Hh, Hb⟩, HSI⟩
      icombine HSI Hb gives %hb
      ihave Hr := (pointsTo_read_all arrays (fun b => ((c : Thread nD τ).1, b)) (at3 m c) s') $$ [Hh HSI]
      · isplitl [Hh] <;> iassumption
      icases Hr with ⟨%h, HSI⟩
      imodintro
      isplitr
      · ipureintro
        have at_ (b : Ref sig .tc) (hs : (Proc.devRef .tc b : DevRef τ sig) ∈ arrays) := h (Proc.devRef .tc b) hs
        exact ⟨⟨⟨(at_ main_arg0 (by decide)).trans (at3_arg0 m c), (at_ main_arg1 (by decide)).trans (at3_arg1 m c)⟩,
          (at_ main_v3 (by decide)).trans (at3_v3 m c)⟩, by simpa using hb⟩
      · iexact HSI)
    (hQ := fun s h hs => ⟨fun c => (h c).1, sem_eq_zero hs fun c sm hsm => by
        obtain rfl := unscoped_sem sm hsm
        exact (h c).2⟩)

end Cert.KernelIdeal
-- ==== Proof.IdealValue.lean ====
/-
  What the ring leaves, over the extended reals: on device c, at row r and column j, the SiLU of the sum over the devices d of the
  products of row block c of d's part of x with d's part of w. A device's block product at an index is a sum over the contracted
  coordinate; the four devices' sums add up in the order the ring meets them; the payloads' casts change nothing.
-/
module

public import proofs.«01_k».proof.Proof.IdealLaunch
public import Idealize.ShloMosaic.Lib.StackMember
public import Idealize.ShloMosaic.Lib.MatmulPlain
public import Idealize.ShloMosaic.Lib.ValueIdx
public import Idealize.ShloMosaic.Lib.Pipeline.Value

@[expose] public section

noncomputable section

namespace Cert.KernelIdeal

open Idealize.ShloMosaic
open Idealize.ShloMosaic.TcCoe
open Idealize.ShloMosaic.ValueIdx
open scoped BigOperators
open Cert.KernelIdeal.Gen

/-! ## The payloads at an index -/

theorem dot_plain : dot_S2048x2048_S2048x512_S2048x512_1_0_0_1_n_n = DotDims.plain 2048 2048 512 := rfl

/-- The product of a row block with a column block, at row r and column j. -/
def prod (x : S2048x2048.Idx → EReal) (w : S2048x512.Idx → EReal) (r : Fin 2048) (j : Fin 512) : EReal :=
  ∑ t : Fin 2048, x (ix2 r t) * w (ix2 t j)

theorem product_at (x : FVec Ideal S2048x2048 .bf16) (w : FVec Ideal S2048x512 .bf16) (r : Fin 2048) (j : Fin 512) :
    FloatOps.matmul dot_S2048x2048_S2048x512_S2048x512_1_0_0_1_n_n none x w (constant S2048x512 .f32 0x00000000#32) (ix2 r j) = prod x w r j := by
  rw [dot_plain]
  refine (Ideal.matmul_plain_apply none x w _ r j).trans ?_
  show Ideal.ofBits .f32 0x00000000#32 + _ = _
  rw [Ideal.ofBits_zero_f32, zero_add]
  rfl

/-- The two views of a block with an axis of extent one in front. -/
theorem tail3 (r : Fin 2048) (j : Fin 512) : (fun a : Fin 2 => (ix3 (0 : Fin 1) r j : S1x2048x512.Idx) a.succ) = (ix2 r j : S2048x512.Idx) := by
  funext a; match a with | ⟨0, _⟩ => rfl | ⟨1, _⟩ => rfl
theorem cons3 (r : Fin 2048) (j : Fin 512) : (Fin.cons ⟨0, Nat.one_pos⟩ (ix2 r j : S2048x512.Idx) : S1x2048x512.Idx) = ix3 (0 : Fin 1) r j := by
  funext a; match a with | ⟨0, _⟩ => rfl | ⟨1, _⟩ => rfl | ⟨2, _⟩ => rfl
theorem front_at {α : Type} (v : S2048x512.Idx → α) (h : S2048x512.ShapeCasts S1x2048x512) (r : Fin 2048) (j : Fin 512) :
    shapeCast S1x2048x512 v h (ix3 (0 : Fin 1) r j) = v (ix2 r j) :=
  (shapeCast_addUnit_apply ![2048, 512] v h _).trans (congrArg v (tail3 r j))
theorem strip_at {α : Type} (v : S1x2048x512.Idx → α) (h : S1x2048x512.ShapeCasts S2048x512) (r : Fin 2048) (j : Fin 512) :
    shapeCast S2048x512 v h (ix2 r j) = v (ix3 (0 : Fin 1) r j) :=
  (shapeCast_dropUnit_apply ![2048, 512] v h _).trans (congrArg v (cons3 r j))

theorem pay5_at (x : FVec Ideal S2048x2048 .bf16) (w : FVec Ideal S2048x512 .bf16) (r : Fin 2048) (j : Fin 512) :
    k2_pay5 (F := Ideal) x w (ix2 r j) = prod x w r j := by
  unfold k2_pay5
  rw [shapeCast_self]
  exact product_at x w r j
theorem pay3_at (x : FVec Ideal S2048x2048 .bf16) (w : FVec Ideal S2048x512 .bf16) (r : Fin 2048) (j : Fin 512) :
    k2_pay3 (F := Ideal) x w (ix3 (0 : Fin 1) r j) = prod x w r j := by
  unfold k2_pay3
  rw [front_at]
  exact product_at x w r j
theorem pay8_at (p : FVec Ideal S2048x512 .f32) (v : FVec Ideal S1x2048x512 .bf16) (r : Fin 2048) (j : Fin 512) :
    k2_pay8 (F := Ideal) p v (ix3 (0 : Fin 1) r j) = p (ix2 r j) + v (ix3 (0 : Fin 1) r j) := by
  unfold k2_pay8
  rw [front_at]
  show p (ix2 r j) + shapeCast S2048x512 v _ (ix2 r j) = _
  rw [strip_at]
theorem pay16_at (p : FVec Ideal S2048x512 .f32) (v : FVec Ideal S1x2048x512 .bf16) (r : Fin 2048) (j : Fin 512) :
    k2_pay16 (F := Ideal) p v (ix2 r j) = p (ix2 r j) + v (ix3 (0 : Fin 1) r j) := by
  unfold k2_pay16
  show p (ix2 r j) + shapeCast S2048x512 v _ (ix2 r j) = _
  rw [strip_at]

/-- y / (1 + exp(-y)), which at every extended real is y times the logistic function of y. -/
def silu (y : EReal) : EReal := Ideal.div y (1 + Ideal.exp (-y))

theorem one_add_exp_ne_zero (y : EReal) : 1 + Ideal.exp (-y) ≠ 0 := by
  have h : (0 : EReal) ≤ Ideal.exp (-y) := by
    induction y with
    | bot => simp
    | coe r => rw [← EReal.coe_neg, Ideal.exp_coe]; exact_mod_cast (Real.exp_pos _).le
    | top => simp
  have h1 : (0 : EReal) < 1 + Ideal.exp (-y) := lt_of_lt_of_le zero_lt_one (le_add_of_nonneg_right h)
  exact h1.ne'

theorem mul_logistic (y : EReal) : y * Ideal.logistic y = silu y := by
  unfold Ideal.logistic silu Ideal.div
  rw [if_neg (one_add_exp_ne_zero y), if_neg (one_add_exp_ne_zero y), one_mul]

theorem pay1_at (s : FVec Ideal S2048x512 .f32) (i : S2048x512.Idx) : k2_pay1 (F := Ideal) s i = silu (s i) := by
  unfold k2_pay1
  rw [shapeCast_self]
  exact mul_logistic (s i)

/-! ## The ring's sum -/

variable (X : Dev nD → S8192x2048.Idx → Elt Ideal .bf16) (W : Dev nD → S2048x4096.Idx → Elt Ideal .bf16)

/-- Device d's part of row block k and column block q, at row r and column j. -/
def part (k : Fin 4) (q : Fin 8) (r : Fin 2048) (j : Fin 512) (d : Dev nD) : EReal := prod (xrow (X d) k) (wcol (W d) q) r j

/-- The device three, two, one steps before c multiplied row block c in hop 0, 1, 2, and c itself does last. -/
theorem hops (δ : Bool) (c : Dev nD) : xk δ c 3 = c ∧ xk δ (nxt (!δ) c) 2 = c ∧ xk δ (nxt (!δ) (nxt (!δ) c)) 1 = c
    ∧ xk δ (nxt (!δ) (nxt (!δ) (nxt (!δ) c))) 0 = c := by revert δ c; decide
/-- They are the four devices. -/
theorem round_sum (δ : Bool) (c : Dev nD) (f : Dev nD → EReal) :
    f c + (f (nxt (!δ) c) + (f (nxt (!δ) (nxt (!δ) c)) + f (nxt (!δ) (nxt (!δ) (nxt (!δ) c))))) = ∑ d, f d := by
  have h : (Finset.univ : Finset (Dev nD)) = {c, nxt (!δ) c, nxt (!δ) (nxt (!δ) c), nxt (!δ) (nxt (!δ) (nxt (!δ) c))} := by revert δ c; decide
  rw [h, Finset.sum_insert (by revert δ c; decide), Finset.sum_insert (by revert δ c; decide), Finset.sum_insert (by revert δ c; decide), Finset.sum_singleton]

theorem outV_at (δ : Bool) (b : ℕ) (c : Dev nD) (r : Fin 2048) (j : Fin 512) :
    outV X W δ b c (ix2 r j) = silu (∑ d, part X W c (colk δ b) r j d) := by
  obtain ⟨h3, h2, h1, h0⟩ := hops δ c
  unfold outV
  rw [pay1_at, pay16_at, pay5_at]
  simp only [V]
  rw [pay8_at, pay5_at, pay8_at, pay5_at, pay3_at, h3, h2, h1, h0]
  exact congrArg silu (round_sum δ c (part X W c (colk δ b) r j))

end Cert.KernelIdeal
-- ==== Proof.IdealEq.lean ====
/-
  The kernel's result against the reference's, over the extended reals: where every device holds its blocks of x and w, the result of
  device c is row block c of x·w under SiLU. The four devices' sums over 2048 contracted coordinates each are one sum over 8192.
-/
module

public import proofs.«01_k».proof.Proof.IdealValue
public import proofs.«01_k».proof.Proof.Gen.ReferenceIdeal.Run
public import Idealize.ShloMosaic.Lib.Layout
public import Idealize.ShloMosaic.Lib.IdealHost

@[expose] public section

noncomputable section

namespace Cert.KernelIdeal

open Idealize.ShloMosaic
open Idealize.ShloMosaic.TcCoe
open Idealize.ShloMosaic.ValueIdx
open scoped BigOperators
open Cert.KernelIdeal.Gen
open Cert.ReferenceIdeal (S8192x8192 S8192x4096)

/-! ## The reference at an index -/

/-- Element (r, j) of x·w. -/
def dot (x : S8192x8192.Idx → EReal) (w : S8192x4096.Idx → EReal) (r : Fin 8192) (j : Fin 4096) : EReal :=
  ∑ t : Fin 8192, x (ix2 r t) * w (ix2 t j)

theorem dot_plain' : ReferenceIdeal.dot_S8192x8192_S8192x4096_S8192x4096_1_0_0_1_n_n = DotDims.plain 8192 8192 4096 := rfl

/-- The reference's result of x and w. -/
abbrev refVal (x : FVec Ideal S8192x8192 .f32) (w : FVec Ideal S8192x4096 .f32) : FVec Ideal S8192x4096 .f32 :=
  Host.divf (Host.dotGeneral ReferenceIdeal.dot_S8192x8192_S8192x4096_S8192x4096_1_0_0_1_n_n none x w)
    (addf (broadcastInDim ReferenceIdeal.S8192x4096 ![] ReferenceIdeal.Gen.bcast_S_S8192x4096 (constant ReferenceIdeal.S_ .f32 0x3F800000#32))
      (Host.exp (Host.negf (Host.dotGeneral ReferenceIdeal.dot_S8192x8192_S8192x4096_S8192x4096_1_0_0_1_n_n none x w))))

/-- What follows the product in the reference is SiLU at every index. -/
theorem ref_silu (y : FVec Ideal S8192x4096 .f32) (i : S8192x4096.Idx) :
    Host.divf y (addf (broadcastInDim ReferenceIdeal.S8192x4096 ![] ReferenceIdeal.Gen.bcast_S_S8192x4096 (constant ReferenceIdeal.S_ .f32 0x3F800000#32))
      (Host.exp (Host.negf y))) i = silu (y i) :=
  congrArg (fun o : EReal => Ideal.div (y i) (o + Ideal.exp (-(y i)))) Ideal.ofBits_one_f32

theorem refVal_at (x : FVec Ideal S8192x8192 .f32) (w : FVec Ideal S8192x4096 .f32) (r : Fin 8192) (j : Fin 4096) :
    refVal x w (ix2 r j) = silu (dot x w r j) := by
  refine (ref_silu _ _).trans (congrArg silu ?_)
  rw [dot_plain']
  exact StackMember.dotGeneral_plain_apply none x w r j

/-! ## The kernel at an index -/

/-- Coordinate t of block d, of four blocks of 2048. -/
def at4 (d : Fin 4) (t : Fin 2048) : Fin 8192 := ⟨2048 * d.val + t.val, by omega⟩
/-- Coordinate j of block q, of eight blocks of 512. -/
def at8 (q : Fin 8) (j : Fin 512) : Fin 4096 := ⟨512 * q.val + j.val, by omega⟩

/-- A sum over 8192 coordinates, block by block. -/
theorem sum_blocks (f : Fin 8192 → EReal) : ∑ d : Fin 4, ∑ t : Fin 2048, f (at4 d t) = ∑ t, f t := by
  rw [← Fintype.sum_prod_type' (f := fun d t => f (at4 d t))]
  refine Fintype.sum_equiv (finProdFinEquiv (m := 4) (n := 2048)) _ _ fun p => congrArg f (Fin.ext ?_)
  show 2048 * p.1.val + p.2.val = p.2.val + 2048 * p.1.val
  omega

section Blocks
variable (x : S8192x8192.Idx → EReal) (w : S8192x4096.Idx → EReal)

/-- Every device's block of x and of w. -/
abbrev blockX (d : Dev nD) : S8192x2048.Idx → EReal := Layout.block ⟨2, ![8192, 2048]⟩ ⟨2, ![8192, 8192]⟩ 1 4 d x
abbrev blockW (d : Dev nD) : S2048x4096.Idx → EReal := Layout.block ⟨2, ![2048, 4096]⟩ ⟨2, ![8192, 4096]⟩ 0 4 d w

theorem xrow_at (d : Dev nD) (k : Fin 4) (r t : Fin 2048) :
    xrow (F := Ideal) (blockX x d) k (ix2 r t) = x (ix2 (at4 k r) (at4 d t)) := by
  unfold xrow
  refine congrArg x (Shape.idx_ext₂ ?_ ?_)
  · show 2048 * k.val + 1 * r.val = 2048 * k.val + r.val
    omega
  · show d.val * 2048 + (0 + 1 * t.val) = 2048 * d.val + t.val
    omega
theorem wcol_at (d : Dev nD) (q : Fin 8) (t : Fin 2048) (j : Fin 512) :
    wcol (F := Ideal) (blockW w d) q (ix2 t j) = w (ix2 (at4 d t) (at8 q j)) := by
  unfold wcol
  refine congrArg w (Shape.idx_ext₂ ?_ ?_)
  · show d.val * 2048 + (0 + 1 * t.val) = 2048 * d.val + t.val
    omega
  · show 512 * q.val + 1 * j.val = 512 * q.val + j.val
    omega

/-- The devices' parts of row block c and column block q add up to x·w. -/
theorem parts_sum (c : Dev nD) (q : Fin 8) (r : Fin 2048) (j : Fin 512) :
    ∑ d, part (blockX x) (blockW w) c q r j d = dot x w (at4 c r) (at8 q j) := by
  unfold part prod dot
  simp only [xrow_at, wcol_at]
  exact sum_blocks fun t => x (ix2 (at4 c r) t) * w (ix2 t (at8 q j))

/-- Column block k is the one its ring and pass name. -/
theorem colk_of (k : Fin 8) : colk (decide (k.val < 4)) (k.val % 4) = k := by revert k; decide

/-- Every index of a device's result lies in one column block. -/
theorem in_block (i : S2048x4096.Idx) : ∃ (k : Fin 8) (r : Fin 2048) (j : Fin 512), i = (colR k).emb (ix2 r j) := by
  have h1 : (i 1).val < 4096 := (i 1).isLt
  refine ⟨⟨(i 1).val / 512, by omega⟩, i 0, ⟨(i 1).val % 512, Nat.mod_lt _ (by omega)⟩, Shape.idx_ext₂ ?_ ?_⟩
  · show (i 0).val = 0 + 1 * (i 0).val
    omega
  · show (i 1).val = 512 * ((i 1).val / 512) + 1 * ((i 1).val % 512)
    omega

/-- The kernel's result on device c is block c of the reference's. -/
theorem outAll_eq (c : Dev nD) : outAll (F := Ideal) (blockX x) (blockW w) c
    = Layout.block ⟨2, ![2048, 4096]⟩ ⟨2, ![8192, 4096]⟩ 0 4 c (refVal x w) := by
  funext i
  obtain ⟨k, r, j, rfl⟩ := in_block i
  rw [outAll_emb, Layout.block_apply]
  unfold outCol
  rw [outV_at, parts_sum, colk_of, ← refVal_at]
  refine congrArg (refVal x w) (Shape.idx_ext₂ ?_ ?_)
  · show 2048 * c.val + r.val = c.val * 2048 + (0 + 1 * r.val)
    omega
  · show 512 * k.val + j.val = 512 * k.val + 1 * j.val
    omega
end Blocks

variable (m : (ℓ : Loc nD τ sig) → Buf (Elt Ideal) ℓ)

/-- So it is where the arguments are the blocks of x and w: the casts change nothing. -/
theorem result_eq (x : S8192x8192.Idx → EReal) (w : S8192x4096.Idx → EReal)
    (hx : ∀ c : Dev nD, m ((c.tc : Thread nD τ).loc main_arg0) = blockX x c) (hw : ∀ c : Dev nD, m ((c.tc : Thread nD τ).loc main_arg1) = blockW w c)
    (c : Dev nD) : result m c = Layout.block ⟨2, ![2048, 4096]⟩ ⟨2, ![8192, 4096]⟩ 0 4 c (refVal x w) := by
  have h0 : cast0 m = blockX x := funext hx
  have h1 : cast1 m = blockW w := funext hw
  unfold result
  rw [h0, h1]
  exact outAll_eq x w c

end Cert.KernelIdeal
-- ==== Proof.IdealClip.lean ====
/-
  The reference with its clip: at the elements y of x·w with -60 ≤ y ≤ 60 the clip changes nothing, and its result there is the result of
  the reference without it.
-/
module

public import proofs.«01_k».proof.Proof.IdealEq
public import proofs.«01_k».proof.Proof.Gen.ClippedIdeal.Run
public import proofs.«01_k».proof.Proof.Gen.On_unclipped

@[expose] public section

noncomputable section

namespace Cert.KernelIdeal

open Idealize.ShloMosaic
open Idealize.ShloMosaic.ValueIdx
open Cert.ReferenceIdeal (S8192x8192 S8192x4096)

/-- The two ends of the clip. -/
abbrev low : EReal := Ideal.ofBits .f32 0xC2700000#32
abbrev high : EReal := Ideal.ofBits .f32 0x42700000#32

/-- What follows the product in the clipped reference. -/
abbrev clipTail (y : FVec Ideal S8192x4096 .f32) : FVec Ideal S8192x4096 .f32 :=
  Host.divf y (addf (broadcastInDim ClippedIdeal.S8192x4096 ![] ClippedIdeal.Gen.bcast_S_S8192x4096 (constant ClippedIdeal.S_ .f32 0x3F800000#32))
    (Host.exp (Host.negf (minimumf (broadcastInDim ClippedIdeal.S8192x4096 ![] ClippedIdeal.Gen.bcast_S_S8192x4096 (id (constant ClippedIdeal.S_ .f32 0x42700000#32)))
      (maximumf (broadcastInDim ClippedIdeal.S8192x4096 ![] ClippedIdeal.Gen.bcast_S_S8192x4096 (id (constant ClippedIdeal.S_ .f32 0xC2700000#32))) y)))))

/-- Between the ends it is SiLU. -/
theorem clip_silu (y : FVec Ideal S8192x4096 .f32) (i : S8192x4096.Idx) (hl : low ≤ y i) (hh : y i ≤ high) : clipTail y i = silu (y i) := by
  have h : min high (max low (y i)) = y i := by rw [max_eq_right hl, min_eq_right hh]
  refine Eq.trans (b := Ideal.div (y i) (Ideal.ofBits .f32 0x3F800000#32 + Ideal.exp (-(min high (max low (y i)))))) rfl ?_
  rw [h, Ideal.ofBits_one_f32]
  rfl

/-- The clipped reference's result of x and w. -/
abbrev clipVal (x : FVec Ideal S8192x8192 .f32) (w : FVec Ideal S8192x4096 .f32) : FVec Ideal S8192x4096 .f32 :=
  clipTail (Host.dotGeneral ClippedIdeal.dot_S8192x8192_S8192x4096_S8192x4096_1_0_0_1_n_n none x w)

/-- The mask's text, of the product. -/
abbrev between60 (y : FVec Ideal S8192x4096 .f32) : IVec S8192x4096 1 :=
  andi (cmpf .oge y (broadcastInDim On_unclipped.S8192x4096 ![] On_unclipped.Gen.bcast_S_S8192x4096 (constant On_unclipped.S_ .f32 0xC2700000#32)))
    (cmpf .ole y (broadcastInDim On_unclipped.S8192x4096 ![] On_unclipped.Gen.bcast_S_S8192x4096 (constant On_unclipped.S_ .f32 0x42700000#32)))

theorem between60_at (y : FVec Ideal S8192x4096 .f32) (i : S8192x4096.Idx) (h : between60 y i = 1#1) : low ≤ y i ∧ y i ≤ high := by
  have h : BitVec.ofBool (decide (low ≤ y i)) &&& BitVec.ofBool (decide (y i ≤ high)) = 1#1 := h
  by_cases hl : low ≤ y i <;> by_cases hh : y i ≤ high <;> simp_all

/-- Where the mask is set the two references agree. -/
theorem clipVal_eq (x : FVec Ideal S8192x8192 .f32) (w : FVec Ideal S8192x4096 .f32) (i : S8192x4096.Idx)
    (h : On_unclipped.fn (F := Ideal) x w i = 1#1) : refVal x w i = clipVal x w i := by
  obtain ⟨hl, hh⟩ := between60_at (Host.dotGeneral On_unclipped.dot_S8192x8192_S8192x4096_S8192x4096_1_0_0_1_n_n none x w) i h
  exact (ref_silu _ i).trans (clip_silu _ i hl hh).symm

/-- Device c's block of a result. -/
abbrev blockR {α : Type} (c : Fin 4) (v : S8192x4096.Idx → α) : (⟨2, ![2048, 4096]⟩ : Shape).Idx → α :=
  Layout.block ⟨2, ![2048, 4096]⟩ ⟨2, ![8192, 4096]⟩ 0 4 c v

/-- So do their blocks, where the mask's block is set. -/
theorem block_eq (c : Fin 4) (x : FVec Ideal S8192x8192 .f32) (w : FVec Ideal S8192x4096 .f32) (i : (⟨2, ![2048, 4096]⟩ : Shape).Idx)
    (h : blockR c (On_unclipped.fn (F := Ideal) x w) i = 1#1) : blockR c (refVal x w) i = blockR c (clipVal x w) i := by
  unfold blockR at h ⊢
  rw [Layout.block_apply] at h ⊢
  rw [Layout.block_apply]
  exact clipVal_eq x w _ h

end Cert.KernelIdeal
-- ==== Proof.lean ====
/-
  The claims, each from the run of the program it speaks of.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.IdealRun
public import proofs.«01_k».proof.Proof.BitsRun
public import proofs.«01_k».proof.Proof.IdealEq
public import proofs.«01_k».proof.Proof.IdealClip
public import proofs.«01_k».proof.Proof.Gen.ClippedIdeal
public import proofs.«01_k».proof.Proof.Gen.ClippedIdeal.Run
public import proofs.«01_k».proof.Proof.Gen.On_unclipped

@[expose] public section

noncomputable section

namespace Cert.Proof

open Idealize.ShloMosaic Idealize.SL.Sem

/-- The kernel as compiled terminates, leaves its arguments as they were and every semaphore at zero. -/
theorem kernel_frame : Cert.quiescent_Kernel (hKernel := Cert.Kernel.Gen.facts) := fun m g _ =>
  (θ_run _ _ _).mono (fun _ h => ⟨fun c => (h.1 c).1, h.2⟩) (Cert.Kernel.kernel_run (F := Bits) m g)

/-- So does the kernel over extended reals. -/
theorem ideal_frame : Cert.quiescent_KernelIdeal (hKernelIdeal := Cert.KernelIdeal.Gen.facts) := fun m g _ =>
  (θ_run _ _ _).mono (fun _ h => ⟨fun c => (h.1 c).1, h.2⟩) (Cert.KernelIdeal.kernel_run (F := Ideal) m g)

/-- And the reference. -/
theorem reference_frame : Cert.quiescent_ReferenceIdeal (hReferenceIdeal := Cert.ReferenceIdeal.Gen.facts) := fun m g _ =>
  (θ_run _ _ _).mono (fun r h => ⟨fun c => ⟨(h c).2.1, (h c).2.2⟩, sem_eq_zero_of_no_sems (by decide) r.2⟩)
    (Cert.ReferenceIdeal.Value.run (F := Ideal) m g)

/-- And the reference with its clip. -/
theorem clipped_frame : Cert.quiescent_ClippedIdeal (hClippedIdeal := Cert.ClippedIdeal.Gen.facts) := fun m g _ =>
  (θ_run _ _ _).mono (fun r h => ⟨fun c => ⟨(h c).2.1, (h c).2.2⟩, sem_eq_zero_of_no_sems (by decide) r.2⟩)
    (Cert.ClippedIdeal.Value.run (F := Ideal) m g)

/-- Over extended reals, where every device of the kernel holds its blocks of the reference's arguments, its result ends as its block of
    the reference's result. -/
theorem same_result : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.refVal _ _,
    (θ_run _ _ _).mono (fun _ h c => ⟨((h.1 c).2).trans (Cert.KernelIdeal.result_eq m _ _ (fun d => (hagree d).1) (fun d => (hagree d).2) c),
      (h.1 c).1⟩) (Cert.KernelIdeal.kernel_run (F := Ideal) m g),
    (θ_run _ _ _).mono (fun _ h => h 0) (Cert.ReferenceIdeal.Value.run (F := Ideal) m' g')⟩

/-- At the elements of x·w that the clip leaves as they are, the kernel's result is the clipped reference's. -/
theorem same_unclipped : Cert.algebraic_KernelIdeal_ClippedIdeal_on_unclipped (hKernelIdeal := Cert.KernelIdeal.Gen.facts)
    (hClippedIdeal := Cert.ClippedIdeal.Gen.facts) (hOn_unclipped := Cert.On_unclipped.Gen.facts) := by
  intro m g m' g' _ hagree
  let x := m' (((0 : Dev Cert.ClippedIdeal.nD).tc : Thread Cert.ClippedIdeal.nD Cert.ClippedIdeal.τ).loc Cert.ClippedIdeal.main_arg0)
  let w := m' (((0 : Dev Cert.ClippedIdeal.nD).tc : Thread Cert.ClippedIdeal.nD Cert.ClippedIdeal.τ).loc Cert.ClippedIdeal.main_arg1)
  refine ⟨Cert.KernelIdeal.clipVal x w,
    (θ_run _ _ _).mono (fun _ h c => ⟨fun i hi =>
        (congrFun (((h.1 c).2).trans (Cert.KernelIdeal.result_eq m x w (fun d => (hagree d).1) (fun d => (hagree d).2) c)) i).trans
          (Cert.KernelIdeal.block_eq c x w i hi), (h.1 c).1⟩) (Cert.KernelIdeal.kernel_run (F := Ideal) m g),
    (θ_run _ _ _).mono (fun _ h => ⟨fun i _ => congrFun (h 0).1 i, (h 0).2⟩) (Cert.ClippedIdeal.Value.run (F := Ideal) m' g')⟩

/-- All that is claimed. -/
theorem claim : Cert.Claim := ⟨Cert.Kernel.Gen.facts, Cert.KernelIdeal.Gen.facts, Cert.ReferenceIdeal.Gen.facts, Cert.ClippedIdeal.Gen.facts,
  Cert.On_unclipped.Gen.facts, kernel_frame, ideal_frame, reference_frame, clipped_frame, trivial, same_result, same_unclipped⟩

end Cert.Proof

end
